-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S8x128
  ∧ IdealRules.named_const.Statement Cert.KernelIdeal.κ "inv_ranks" .f32 0x3D124925#32 ((1 / 28 : ℝ) : EReal)
  ∧ IdealRules.named_const.Statement Cert.KernelIdeal.κ "inv_bc1" .f32 0x3F91B733#32 ((100000000000000000000 / 87842334540943071199 : ℝ) : EReal)
  ∧ IdealRules.named_const.Statement Cert.KernelIdeal.κ "inv_bc2" .f32 0x3FC78729#32 ((104857600000000000000000000 / 67267626542454041806644399 : ℝ) : EReal)

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S28x256x14336 : Shape := ⟨3, ![28, 256, 14336]⟩
abbrev S28x256x112 : Shape := ⟨3, ![28, 256, 112]⟩
abbrev S256x14336 : Shape := ⟨2, ![256, 14336]⟩
abbrev S_ : Shape := ⟨0, ![]⟩

class Facts : Prop where
  bcast_S_S28x256x112 : S_.BroadcastsInDim S28x256x112 (![] : Fin 0 → Fin S28x256x112.rank)
  reducesTo_S28x256x112_S_d0_1_2 : S28x256x112.ReducesTo [0, 1, 2] S_
  h_S_ : 0 < S_.numel

variable [Facts]

def fn {F : FTy → Type} [FloatOps F] (main_arg0 : FVec F S28x256x14336 .fp8e5m2) (main_arg1 : FVec F S28x256x112 .f32) (main_arg2 : FVec F S256x14336 .f32) (main_arg3 : FVec F S256x14336 .f32) (main_arg4 : FVec F S256x14336 .f32) : IVec S_ 1 :=
  let main_v0 : FVec F S28x256x112 .f32 := Host.absf main_arg1
  let main_cst : FVec F S_ .f32 := constant S_ .f32 0x7F800000#32
  let main_v1 : FVec F S28x256x112 .f32 := broadcastInDim S28x256x112 ![] bcast_S_S28x256x112 main_cst
  let main_v2 : IVec S28x256x112 1 := cmpf .olt main_v0 main_v1
  let main_c : IVec S_ 1 := constantI S_ 1 1#1
  let main_v3 : IVec S_ 1 := (fun x v => Host.reduce IntOp.andi x v reducesTo_S28x256x112_S_d0_1_2 h_S_) main_v2 main_c
  main_v3
-- ==== Kernel.lean ====
abbrev S28x256x14336 : Shape := ⟨3, ![28, 256, 14336]⟩
abbrev S28x256x112 : Shape := ⟨3, ![28, 256, 112]⟩
abbrev S256x14336 : Shape := ⟨2, ![256, 14336]⟩
abbrev S28x112x256 : Shape := ⟨3, ![28, 112, 256]⟩
abbrev S112x256 : Shape := ⟨2, ![112, 256]⟩
abbrev S28x128x1024 : Shape := ⟨3, ![28, 128, 1024]⟩
abbrev S28x8x128 : Shape := ⟨3, ![28, 8, 128]⟩
abbrev S128x1024 : Shape := ⟨2, ![128, 1024]⟩
abbrev S8x128 : Shape := ⟨2, ![8, 128]⟩
abbrev S4x3x8x896 : Shape := ⟨4, ![4, 3, 8, 896]⟩
abbrev S128x128 : Shape := ⟨2, ![128, 128]⟩
abbrev S1x8x128 : Shape := ⟨3, ![1, 8, 128]⟩
abbrev S1x1x8x128 : Shape := ⟨4, ![1, 1, 8, 128]⟩
abbrev S16x896 : Shape := ⟨2, ![16, 896]⟩
abbrev S32x128 : Shape := ⟨2, ![32, 128]⟩
abbrev S1x1x1x896 : Shape := ⟨4, ![1, 1, 1, 896]⟩
abbrev S1x896 : Shape := ⟨2, ![1, 896]⟩
abbrev S28x32x256 : Shape := ⟨3, ![28, 32, 256]⟩
abbrev S192x896 : Shape := ⟨2, ![192, 896]⟩
abbrev S896x256 : Shape := ⟨2, ![896, 256]⟩
abbrev S192x256 : Shape := ⟨2, ![192, 256]⟩
abbrev S32 : Shape := ⟨1, ![32]⟩
abbrev S32x1 : Shape := ⟨2, ![32, 1]⟩
abbrev S32x256 : Shape := ⟨2, ![32, 256]⟩

abbrev nBuf : Space → Nat
  | .hbm => 12
  | .vmem => 24
  | .smem => 0
  | _ => 0

abbrev bufTy : (tb : Table) → Fin (tcTables nBuf tb) → BufTy
  | .hbm, ⟨0, _⟩ => ⟨S28x256x14336, .fp8e5m2⟩
  | .hbm, ⟨1, _⟩ => ⟨S28x256x112, .f32⟩
  | .hbm, ⟨2, _⟩ => ⟨S256x14336, .f32⟩
  | .hbm, ⟨3, _⟩ => ⟨S256x14336, .f32⟩
  | .hbm, ⟨4, _⟩ => ⟨S256x14336, .f32⟩
  | .hbm, ⟨5, _⟩ => ⟨S28x112x256, .f32⟩
  | .hbm, ⟨6, _⟩ => ⟨S256x14336, .f32⟩
  | .hbm, ⟨7, _⟩ => ⟨S256x14336, .f32⟩
  | .hbm, ⟨8, _⟩ => ⟨S256x14336, .f32⟩
  | .hbm, ⟨9, _⟩ => ⟨S256x14336, .f32⟩
  | .hbm, ⟨10, _⟩ => ⟨S256x14336, .fp8e4m3⟩
  | .hbm, ⟨11, _⟩ => ⟨S112x256, .f32⟩
  | .local _ .vmem, ⟨0, _⟩ => ⟨S28x128x1024, .fp8e5m2⟩
  | .local _ .vmem, ⟨1, _⟩ => ⟨S28x128x1024, .fp8e5m2⟩
  | .local _ .vmem, ⟨2, _⟩ => ⟨S28x8x128, .f32⟩
  | .local _ .vmem, ⟨3, _⟩ => ⟨S28x8x128, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .fp8e4m3⟩
  | .local _ .vmem, ⟨19, _⟩ => ⟨S128x1024, .fp8e4m3⟩
  | .local _ .vmem, ⟨20, _⟩ => ⟨S8x128, .f32⟩
  | .local _ .vmem, ⟨21, _⟩ => ⟨S8x128, .f32⟩
  | .local _ .vmem, ⟨22, _⟩ => ⟨S4x3x8x896, .f32⟩
  | .local _ .vmem, ⟨23, _⟩ => ⟨S128x128, .f32⟩
  | _, _ => ⟨S28x256x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨2, ![2, 14], ![false, false]⟩

@[reducible] def k0_t1_loop : Scf.Loop 32 :=
  let c0_i32 : BitVec 32 := 0#32
  let c4_i32 : BitVec 32 := 4#32
  let v1093 : BitVec 32 := Scalar.addi c0_i32 c4_i32
  let c1_i32 : BitVec 32 := 1#32
  ⟨c0_i32, v1093, c1_i32⟩
def k0_mult1 (k0_t1 : Fin k0_t1_loop.trips) : BitVec 32 :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  v1100
def k0_off1 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1114 : Index := Scalar.indexCast v1099
  let c0_643 : Index := 0#32
  let c0_644 : Index := 0#32
  let c0_645 : Index := 0#32
  ![v1114.toNat, 0, 0, 0]
def k0_off2 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1125 : Index := Scalar.indexCast v1099
  let c0_648 : Index := 0#32
  let c1_649 : Index := 1#32
  let c0_650 : Index := 0#32
  ![v1125.toNat, 0, 1, 0]
def k0_off3 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1136 : Index := Scalar.indexCast v1099
  let c1_653 : Index := 1#32
  let c0_654 : Index := 0#32
  let c0_655 : Index := 0#32
  ![v1136.toNat, 1, 0, 0]
def k0_off4 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1147 : Index := Scalar.indexCast v1099
  let c1_658 : Index := 1#32
  let c1_659 : Index := 1#32
  let c0_660 : Index := 0#32
  ![v1147.toNat, 1, 1, 0]
def k0_off5 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1158 : Index := Scalar.indexCast v1099
  let c2_663 : Index := 2#32
  let c0_664 : Index := 0#32
  let c0_665 : Index := 0#32
  ![v1158.toNat, 2, 0, 0]
def k0_off6 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1169 : Index := Scalar.indexCast v1099
  let c2_668 : Index := 2#32
  let c1_669 : Index := 1#32
  let c0_670 : Index := 0#32
  ![v1169.toNat, 2, 1, 0]
def k0_off7 (k0_t1 : Fin k0_t1_loop.trips) : Fin 3 → Nat :=
  let c0_673 : Index := 0#32
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1180 : Index := Scalar.indexCast v1101
  let c0_674 : Index := 0#32
  ![0, v1180.toNat, 0]
def k0_off8 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1192 : Index := Scalar.indexCast v1101
  let c0_677 : Index := 0#32
  ![v1192.toNat, 0]
def k0_off9 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1287 : Index := Scalar.indexCast v1101
  let c128_707 : Index := 128#32
  ![v1287.toNat, 128]
def k0_off10 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1375 : Index := Scalar.indexCast v1099
  let c0_740 : Index := 0#32
  let c2_741 : Index := 2#32
  let c0_742 : Index := 0#32
  ![v1375.toNat, 0, 2, 0]
def k0_off11 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1386 : Index := Scalar.indexCast v1099
  let c0_745 : Index := 0#32
  let c3_746 : Index := 3#32
  let c0_747 : Index := 0#32
  ![v1386.toNat, 0, 3, 0]
def k0_off12 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1397 : Index := Scalar.indexCast v1099
  let c1_750 : Index := 1#32
  let c2_751 : Index := 2#32
  let c0_752 : Index := 0#32
  ![v1397.toNat, 1, 2, 0]
def k0_off13 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1408 : Index := Scalar.indexCast v1099
  let c1_755 : Index := 1#32
  let c3_756 : Index := 3#32
  let c0_757 : Index := 0#32
  ![v1408.toNat, 1, 3, 0]
def k0_off14 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1419 : Index := Scalar.indexCast v1099
  let c2_760 : Index := 2#32
  let c2_761 : Index := 2#32
  let c0_762 : Index := 0#32
  ![v1419.toNat, 2, 2, 0]
def k0_off15 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1430 : Index := Scalar.indexCast v1099
  let c2_765 : Index := 2#32
  let c3_766 : Index := 3#32
  let c0_767 : Index := 0#32
  ![v1430.toNat, 2, 3, 0]
def k0_off16 (k0_t1 : Fin k0_t1_loop.trips) : Fin 3 → Nat :=
  let c0_770 : Index := 0#32
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1441 : Index := Scalar.indexCast v1101
  let c256_771 : Index := 256#32
  ![0, v1441.toNat, 256]
def k0_off17 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1453 : Index := Scalar.indexCast v1101
  let c256_774 : Index := 256#32
  ![v1453.toNat, 256]
def k0_off18 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1548 : Index := Scalar.indexCast v1101
  let c384_807 : Index := 384#32
  ![v1548.toNat, 384]
def k0_off19 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1636 : Index := Scalar.indexCast v1099
  let c0_839 : Index := 0#32
  let c4_840 : Index := 4#32
  let c0_841 : Index := 0#32
  ![v1636.toNat, 0, 4, 0]
def k0_off20 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1647 : Index := Scalar.indexCast v1099
  let c0_844 : Index := 0#32
  let c5_845 : Index := 5#32
  let c0_846 : Index := 0#32
  ![v1647.toNat, 0, 5, 0]
def k0_off21 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1658 : Index := Scalar.indexCast v1099
  let c1_849 : Index := 1#32
  let c4_850 : Index := 4#32
  let c0_851 : Index := 0#32
  ![v1658.toNat, 1, 4, 0]
def k0_off22 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1669 : Index := Scalar.indexCast v1099
  let c1_854 : Index := 1#32
  let c5_855 : Index := 5#32
  let c0_856 : Index := 0#32
  ![v1669.toNat, 1, 5, 0]
def k0_off23 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1680 : Index := Scalar.indexCast v1099
  let c2_859 : Index := 2#32
  let c4_860 : Index := 4#32
  let c0_861 : Index := 0#32
  ![v1680.toNat, 2, 4, 0]
def k0_off24 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1691 : Index := Scalar.indexCast v1099
  let c2_864 : Index := 2#32
  let c5_865 : Index := 5#32
  let c0_866 : Index := 0#32
  ![v1691.toNat, 2, 5, 0]
def k0_off25 (k0_t1 : Fin k0_t1_loop.trips) : Fin 3 → Nat :=
  let c0_869 : Index := 0#32
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1702 : Index := Scalar.indexCast v1101
  let c512_870 : Index := 512#32
  ![0, v1702.toNat, 512]
def k0_off26 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1714 : Index := Scalar.indexCast v1101
  let c512_873 : Index := 512#32
  ![v1714.toNat, 512]
def k0_off27 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1809 : Index := Scalar.indexCast v1101
  let c640_907 : Index := 640#32
  ![v1809.toNat, 640]
def k0_off28 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1897 : Index := Scalar.indexCast v1099
  let c0_939 : Index := 0#32
  let c6_940 : Index := 6#32
  let c0_941 : Index := 0#32
  ![v1897.toNat, 0, 6, 0]
def k0_off29 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1908 : Index := Scalar.indexCast v1099
  let c0_944 : Index := 0#32
  let c7_945 : Index := 7#32
  let c0_946 : Index := 0#32
  ![v1908.toNat, 0, 7, 0]
def k0_off30 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1919 : Index := Scalar.indexCast v1099
  let c1_949 : Index := 1#32
  let c6_950 : Index := 6#32
  let c0_951 : Index := 0#32
  ![v1919.toNat, 1, 6, 0]
def k0_off31 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1930 : Index := Scalar.indexCast v1099
  let c1_954 : Index := 1#32
  let c7_955 : Index := 7#32
  let c0_956 : Index := 0#32
  ![v1930.toNat, 1, 7, 0]
def k0_off32 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1941 : Index := Scalar.indexCast v1099
  let c2_959 : Index := 2#32
  let c6_960 : Index := 6#32
  let c0_961 : Index := 0#32
  ![v1941.toNat, 2, 6, 0]
def k0_off33 (k0_t1 : Fin k0_t1_loop.trips) : Fin 4 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let v1952 : Index := Scalar.indexCast v1099
  let c2_964 : Index := 2#32
  let c7_965 : Index := 7#32
  let c0_966 : Index := 0#32
  ![v1952.toNat, 2, 7, 0]
def k0_off34 (k0_t1 : Fin k0_t1_loop.trips) : Fin 3 → Nat :=
  let c0_969 : Index := 0#32
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1963 : Index := Scalar.indexCast v1101
  let c768_970 : Index := 768#32
  ![0, v1963.toNat, 768]
def k0_off35 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v1975 : Index := Scalar.indexCast v1101
  let c768_973 : Index := 768#32
  ![v1975.toNat, 768]
def k0_off36 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v2070 : Index := Scalar.indexCast v1101
  let c896 : Index := 896#32
  ![v2070.toNat, 896]
def k0_off37 (k0_t1 : Fin k0_t1_loop.trips) : Fin 2 → Nat :=
  let c0_i32_640 : BitVec 32 := 0#32
  let c0_i32 : BitVec 32 := 0#32
  let c1_i32 : BitVec 32 := 1#32
  let arg15 : BitVec 32 := Scf.iv c0_i32 c1_i32 k0_t1
  let c1_i32_639 : BitVec 32 := 1#32
  let v1098 : BitVec 32 := Scalar.muli arg15 c1_i32_639
  let v1099 : BitVec 32 := Scalar.addi c0_i32_640 v1098
  let c32_i32_641 : BitVec 32 := 32#32
  let v1100 : BitVec 32 := Scalar.muli v1099 c32_i32_641
  let v1101 : BitVec 32 := v1100
  let v2158 : Index := Scalar.indexCast v1101
  let c0_1037 : Index := 0#32
  ![v2158.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S28x128x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S28x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_bc1" => some ((100000000000000000000 / 87842334540943071199 : ℝ) : EReal)
  | "inv_bc2" => some ((104857600000000000000000000 / 67267626542454041806644399 : ℝ) : EReal)
  | "inv_ranks" => some ((1 / 28 : ℝ) : EReal)
  | _ => none
-- ==== ReferenceIdeal.lean ====
abbrev S28x256x14336 : Shape := ⟨3, ![28, 256, 14336]⟩
abbrev S28x256x112 : Shape := ⟨3, ![28, 256, 112]⟩
abbrev S256x14336 : Shape := ⟨2, ![256, 14336]⟩
abbrev S112x256 : Shape := ⟨2, ![112, 256]⟩
abbrev S28x256x112x128 : Shape := ⟨4, ![28, 256, 112, 128]⟩
abbrev S28x256x112x1 : Shape := ⟨4, ![28, 256, 112, 1]⟩
abbrev S256x112x128 : Shape := ⟨3, ![256, 112, 128]⟩
abbrev S256x112 : Shape := ⟨2, ![256, 112]⟩
abbrev S256x112x1 : Shape := ⟨3, ![256, 112, 1]⟩

abbrev nBuf : Space → Nat
  | .hbm => 11
  | .vmem => 11
  | .smem => 0
  | _ => 0

abbrev bufTy : (tb : Table) → Fin (tcTables nBuf tb) → BufTy
  | .hbm, ⟨0, _⟩ => ⟨S28x256x14336, .fp8e5m2⟩
  | .hbm, ⟨1, _⟩ => ⟨S28x256x112, .f32⟩
  | .hbm, ⟨2, _⟩ => ⟨S256x14336, .f32⟩
  | .hbm, ⟨3, _⟩ => ⟨S256x14336, .f32⟩
  | .hbm, ⟨4, _⟩ => ⟨S256x14336, .f32⟩
  | .hbm, ⟨5, _⟩ => ⟨S256x14336, .f32⟩
  | .hbm, ⟨6, _⟩ => ⟨S256x14336, .f32⟩
  | .hbm, ⟨7, _⟩ => ⟨S256x14336, .f32⟩
  | .hbm, ⟨8, _⟩ => ⟨S256x14336, .f32⟩
  | .hbm, ⟨9, _⟩ => ⟨S256x14336, .fp8e4m3⟩
  | .hbm, ⟨10, _⟩ => ⟨S112x256, .f32⟩
  | .local _ .vmem, ⟨0, _⟩ => ⟨S28x256x14336, .fp8e5m2⟩
  | .local _ .vmem, ⟨1, _⟩ => ⟨S28x256x112, .f32⟩
  | .local _ .vmem, ⟨2, _⟩ => ⟨S256x14336, .f32⟩
  | .local _ .vmem, ⟨3, _⟩ => ⟨S256x14336, .f32⟩
  | .local _ .vmem, ⟨4, _⟩ => ⟨S256x14336, .f32⟩
  | .local _ .vmem, ⟨5, _⟩ => ⟨S256x14336, .f32⟩
  | .local _ .vmem, ⟨6, _⟩ => ⟨S256x14336, .f32⟩
  | .local _ .vmem, ⟨7, _⟩ => ⟨S256x14336, .f32⟩
  | .local _ .vmem, ⟨8, _⟩ => ⟨S256x14336, .f32⟩
  | .local _ .vmem, ⟨9, _⟩ => ⟨S256x14336, .fp8e4m3⟩
  | .local _ .vmem, ⟨10, _⟩ => ⟨S112x256, .f32⟩
  | _, _ => ⟨S28x256x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "bc1" => some ((87842334540943071199 / 100000000000000000000 : ℝ) : EReal)
  | "bc2" => some ((67267626542454041806644399 / 104857600000000000000000000 : ℝ) : EReal)
  | "ln2" => some ((Real.log 2 : ℝ) : EReal)
  | _ => none

abbrev grid0 : Pipeline.Grid := .none

abbrev stage0_0 : Fin 1 → Memref sig .tc .vmem S28x256x14336 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x256x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x14336 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x14336 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x14336 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S112x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Row.lean ====
/- What one trip of the kernel's loop computes of one column block, as vector functions of what it loads: the
   products of the split scales with the codes, the mean gradient, the moments, the update, the new weights, the
   exponent of the block's scale, the fp8 codes and the scale's column. -/
module

public import proofs.«01_k».proof.Proof.Gen.KernelIdeal.Skeleton

@[expose] public section

noncomputable section

namespace Cert.KernelIdeal.Row

open Idealize.ShloMosaic Cert.KernelIdeal Cert.KernelIdeal.Gen Cert.KernelIdeal.Facts

variable {F : FTy → Type} [FloatOps F] [Named F]

/-- Where the lane's row within its rank is the sublane, plus `h`. -/
def maskV (h : BitVec 32) : IVec S16x896 1 :=
  cmpi .eq (andi (iota .tc S16x896 32 [1] iota_S16x896_d1_w32) (broadcast S16x896 31#32))
    (addi (iota .tc S16x896 32 [0] iota_S16x896_d0_w32) (broadcast S16x896 h))

/-- Sixteen rows of the left operand: the scales of one piece on the diagonals, zero elsewhere. -/
def partV (h : BitVec 32) (w : Vec F S1x1x1x896 .f32) : FVec F S16x896 .bf16 :=
  truncf .bf16
    (select (maskV h)
      (broadcastTo S16x896 (shapeCast S1x896 (shapeCast S1x896 w shapeCasts_S1x1x1x896_S1x896) shapeCasts_S1x896_S1x896)
        broadcasts_S1x896_S16x896)
      (broadcast S16x896 (Scalar.ofBits .f32 0x00000000#32)))
    bitsLt_bf16_f32

/-- The left operand: for each piece and each of the two blocks, its thirty-two rows. -/
def lhsV (w00 w01 w10 w11 w20 w21 : Vec F S1x1x1x896 .f32) : FVec F S192x896 .bf16 :=
  concatenate S192x896 0
    [⟨S16x896, partV 0#32 w00⟩, ⟨S16x896, partV 16#32 w00⟩, ⟨S16x896, partV 0#32 w01⟩, ⟨S16x896, partV 16#32 w01⟩,
     ⟨S16x896, partV 0#32 w10⟩, ⟨S16x896, partV 16#32 w10⟩, ⟨S16x896, partV 0#32 w11⟩, ⟨S16x896, partV 16#32 w11⟩,
     ⟨S16x896, partV 0#32 w20⟩, ⟨S16x896, partV 16#32 w20⟩, ⟨S16x896, partV 0#32 w21⟩, ⟨S16x896, partV 16#32 w21⟩]
    concatenates_S16x896_S16x896_S16x896_S16x896_S16x896_S16x896_S16x896_S16x896_S16x896_S16x896_S16x896_S16x896_S192x896_d0

/-- The products of two neighbouring column blocks. -/
def sumsV (w00 w01 w10 w11 w20 w21 : Vec F S1x1x1x896 .f32) (codes : Vec F S28x32x256 .fp8e5m2) : FVec F S192x256 .f32 :=
  matmul dot_S192x896_S896x256_S192x256_1_0_0_1_n_n none (lhsV w00 w01 w10 w11 w20 w21)
    (shapeCast S896x256 codes shapeCasts_S28x32x256_S896x256) (constant S192x256 .f32 0x00000000#32)

/-- The mean gradient of the first of the two blocks. -/
def gV0 (s : FVec F S192x256 .f32) : FVec F S32x128 .f32 :=
  mulf (addf (addf (extractStridedSlice S32x128 ![128, 0] s slices_S192x256_o128_0_S32x128)
      (extractStridedSlice S32x128 ![64, 0] s slices_S192x256_o64_0_S32x128))
      (extractStridedSlice S32x128 ![0, 0] s slices_S192x256_o0_0_S32x128))
    (broadcast S32x128 (Named.named κ "inv_ranks" 0x3D124925#32))

/-- The mean gradient of the second of the two blocks. -/
def gV1 (s : FVec F S192x256 .f32) : FVec F S32x128 .f32 :=
  mulf (addf (addf (extractStridedSlice S32x128 ![160, 128] s slices_S192x256_o160_128_S32x128)
      (extractStridedSlice S32x128 ![96, 128] s slices_S192x256_o96_128_S32x128))
      (extractStridedSlice S32x128 ![32, 128] s slices_S192x256_o32_128_S32x128))
    (broadcast S32x128 (Named.named κ "inv_ranks" 0x3D124925#32))

/-- The new first moment. -/
def mV (g m : FVec F S32x128 .f32) : FVec F S32x128 .f32 :=
  addf (mulf (broadcast S32x128 (Scalar.ofBits .f32 0x3F666666#32)) m)
    (mulf (broadcast S32x128 (Scalar.ofBits .f32 0x3DCCCCCD#32)) g)

/-- The new second moment. -/
def vV (g v : FVec F S32x128 .f32) : FVec F S32x128 .f32 :=
  addf (mulf (broadcast S32x128 (Scalar.ofBits .f32 0x3F733333#32)) v)
    (mulf (broadcast S32x128 (Scalar.ofBits .f32 0x3D4CCCCD#32)) (mulf g g))

/-- The update. -/
def updV (g p m v : FVec F S32x128 .f32) : FVec F S32x128 .f32 :=
  mulf (broadcast S32x128 (Scalar.ofBits .f32 0x3C23D70A#32))
    (addf
      (divf (mulf (mV g m) (broadcast S32x128 (Named.named κ "inv_bc1" 0x3F91B733#32)))
        (addf (sqrt (mulf (vV g v) (broadcast S32x128 (Named.named κ "inv_bc2" 0x3FC78729#32))))
          (broadcast S32x128 (Scalar.ofBits .f32 0x322BCC77#32))))
      (mulf (broadcast S32x128 (Scalar.ofBits .f32 0x3DCCCCCD#32)) p))

/-- The new weights. -/
def newV (g p m v : FVec F S32x128 .f32) : FVec F S32x128 .f32 := subf p (updV g p m v)

/-- Each row's largest magnitude over 448. -/
def yV (new : FVec F S32x128 .f32) : FVec F S32x1 .f32 :=
  mulf (shapeCast S32x1
      (multiReduction .maximumf [1] S32 (absf new) 0xFF800000#32 reduces_S32x128_S32 (.inl rfl) rfl) shapeCasts_S32_S32x1)
    (broadcast S32x1 (Scalar.ofBits .f32 0x3B124925#32))

/-- The patterns of the powers of two, one a lane. -/
def patV : IVec S32x256 32 := muli (iota .tc S32x256 32 [1] iota_S32x256_d1_w32) (broadcast S32x256 8388608#32)

/-- The patterns of the powers of two that a row's value reaches, zero in the other lanes. -/
def reachedV (y : FVec F S32x1 .f32) (pat : IVec S32x256 32) : IVec S32x256 32 :=
  select
    (andi (cmpf .oge (broadcastTo S32x256 y broadcasts_S32x1_S32x256) (bitcastToFloat .f32 pat))
      (cmpi .ne pat (broadcast S32x256 2139095040#32)))
    pat (broadcast S32x256 0#32)

/-- The pattern of the largest power of two that a row's value reaches. -/
def fieldV (z : IVec S32x256 32) : IVec S32x1 32 :=
  shapeCast S32x1 (multiReductionI .maxsi [1] S32 z 2147483648#32 reduces_S32x256_S32 rfl) shapeCasts_S32_S32x1

/-- That pattern, and the pattern of infinity where the value is too large. -/
def expV (y : FVec F S32x1 .f32) : IVec S32x1 32 :=
  select (cmpf .olt y (broadcast S32x1 (Scalar.ofBits .f32 0x7E800000#32))) (fieldV (reachedV y patV))
    (broadcast S32x1 2139095040#32)

/-- The pattern of a scale, from the exponent's pattern: one more, or one where there is none. -/
def scaleV (e : IVec S32x1 32) : IVec S32x1 32 :=
  select (andi (cmpi .ne e (broadcast S32x1 0#32)) (cmpi .ne e (broadcast S32x1 2139095040#32)))
    (addi e (broadcast S32x1 8388608#32)) (broadcast S32x1 1065353216#32)

/-- The pattern of each row's scale. -/
def sbV (new : FVec F S32x128 .f32) : IVec S32x1 32 := scaleV (expV (yV new))

/-- The fp8 codes. -/
def codesV (new : FVec F S32x128 .f32) : FVec F S32x128 .fp8e4m3 :=
  truncf .fp8e4m3
    (minimumf (broadcast S32x128 (Scalar.ofBits .f32 0x43E00000#32))
      (maximumf (broadcast S32x128 (Scalar.ofBits .f32 0xC3E00000#32))
        (mulf new (broadcastTo S32x128
          (bitcastToFloat .f32 (subi (broadcast S32x1 2130706432#32) (sbV new))) broadcasts_S32x1_S32x128))))
    bitsLt_fp8e4m3_f32

/-- The column of scales: lane `b` takes this block's scale, the other lanes keep what they had. -/
def psV (b : BitVec 32) (prev new : FVec F S32x128 .f32) : FVec F S32x128 .f32 :=
  select (cmpi .eq (iota .tc S32x128 32 [1] iota_S32x128_d1_w32) (broadcast S32x128 b))
    (broadcastTo S32x128 (shapeCast S32x1 (bitcastToFloat .f32 (sbV new)) shapeCasts_S32x1_S32x1) broadcasts_S32x1_S32x128)
    prev

end Cert.KernelIdeal.Row

end
-- ==== Proof.Quant.lean ====
/- The block scale of the fp8 output: the kernel reads the exponent field of the scaled block maximum, the reference
   takes the floor of a base-two logarithm. Both give the same power of two, and the same reciprocal. -/
module

public import Idealize.ShloMosaic.PureOps
public import Idealize.ShloMosaic.PureOps.Ideal
public import Idealize.ShloMosaic.PureOps.Reduce
public import Mathlib.Analysis.SpecialFunctions.Log.Basic
public import Mathlib.Analysis.SpecialFunctions.Pow.Real

@[expose] public section

noncomputable section

namespace Cert.Quant

open Idealize.ShloMosaic

/-- The f32 pattern whose exponent field is `k` and whose other bits are zero. -/
def pat (k : ℕ) : BitVec 32 := BitVec.ofNat 32 k * 8388608#32

theorem pat_sign : ∀ k : Fin 256, (pat k).extractLsb' 31 1 = 0#1 := by unfold pat; decide +kernel
theorem pat_exp : ∀ k : Fin 256, ((pat k).extractLsb' 23 8).toNat = k.val := by unfold pat; decide +kernel
theorem pat_frac : ∀ k : Fin 256, ((pat k).extractLsb' 0 23).toNat = 0 := by unfold pat; decide +kernel
theorem pat_toInt : ∀ k : Fin 255, (pat k).toInt = (k.val : ℤ) * 8388608 := by unfold pat; decide +kernel
theorem pat_ne : ∀ k : Fin 256, (pat k ≠ 2139095040#32) ↔ k.val ≠ 255 := by unfold pat; decide +kernel

/-- A pattern with exponent field `k` from 1 to 254 denotes `2 ^ (k - 127)`. -/
theorem ofBits_pat {k : ℕ} (h1 : 1 ≤ k) (h2 : k ≤ 254) :
    Ideal.ofBits .f32 (pat k) = (((2 : ℝ) ^ ((k : ℤ) - 127) : ℝ) : EReal) := by
  have hs := pat_sign ⟨k, by omega⟩
  have he := pat_exp ⟨k, by omega⟩
  have hf := pat_frac ⟨k, by omega⟩
  simp only at hs he hf
  have h0 : k ≠ 0 := by omega
  have h255 : k ≠ 2 ^ 8 - 1 := by omega
  show Ideal.ieee 8 23 (pat k) = _
  unfold Ideal.ieee
  simp only [hs, he, hf, h0, h255, if_false, Nat.reduceAdd]
  congr 1
  have : ((k : ℤ) - (2 ^ (8 - 1) - 1) - 23 : ℤ) = ((k : ℤ) - 127) - 23 := by norm_num
  rw [show ((23 : ℕ) : ℤ) = 23 from rfl, this, zpow_sub₀ (by norm_num : (2 : ℝ) ≠ 0) _ 23]
  norm_num
  ring

/-- The pattern of zero denotes zero. -/
theorem ofBits_pat_zero : Ideal.ofBits .f32 (pat 0) = 0 := by
  have hs := pat_sign 0
  have he := pat_exp 0
  have hf := pat_frac 0
  simp only [Fin.val_zero] at hs he hf
  show Ideal.ieee 8 23 (pat 0) = _
  unfold Ideal.ieee
  simp [hs, he, hf]

/-- Entry `l` of the table the exponent is searched in: the pattern of exponent field `l` where `y` has reached
    its value, zero elsewhere and at the pattern of infinity. -/
def reached (y : EReal) (l : ℕ) : BitVec 32 :=
  if Ideal.ofBits .f32 (pat l) ≤ y ∧ l ≠ 255 then pat l else 0#32

/-- The greatest entry of the table. -/
def field (y : EReal) : BitVec 32 :=
  Finset.univ.fold IntOp.maxsi 2147483648#32 fun l : Fin 256 => reached y l.val

/-- The exponent field of `y` as the kernel finds it. -/
def expField (y : EReal) : BitVec 32 :=
  if y < Ideal.ofBits .f32 0x7E800000#32 then field y else 2139095040#32

/-- The pattern of the block's scale. -/
def sbits (y : EReal) : BitVec 32 :=
  if expField y ≠ 0#32 ∧ expField y ≠ 2139095040#32 then expField y + 8388608#32 else 1065353216#32

/-- The reference's exponent. -/
def refExp (ln2 : EReal) (y : EReal) : EReal :=
  if Ideal.ofBits .f32 0x00800000#32 ≤ y ∧ y < Ideal.ofBits .f32 0x7E800000#32 then
    Ideal.liftRound Int.floor (Ideal.div (Ideal.log y) ln2) + Ideal.ofBits .f32 0x3F800000#32
  else Ideal.ofBits .f32 0x00000000#32

theorem ofBits_min : Ideal.ofBits .f32 0x00800000#32 = (((2 : ℝ) ^ (-126 : ℤ) : ℝ) : EReal) := by
  rw [show (0x00800000#32 : BitVec 32) = pat 1 from by decide, ofBits_pat (by norm_num) (by norm_num)]; norm_num

theorem ofBits_big : Ideal.ofBits .f32 0x7E800000#32 = (((2 : ℝ) ^ (126 : ℤ) : ℝ) : EReal) := by
  rw [show (0x7E800000#32 : BitVec 32) = pat 253 from by decide, ofBits_pat (by norm_num) (by norm_num)]; norm_num

theorem ofBits_one : Ideal.ofBits .f32 0x3F800000#32 = ((1 : ℝ) : EReal) := by
  rw [show (0x3F800000#32 : BitVec 32) = pat 127 from by decide, ofBits_pat (by norm_num) (by norm_num)]; norm_num

theorem ofBits_zero : Ideal.ofBits .f32 0x00000000#32 = ((0 : ℝ) : EReal) := by
  rw [show (0x00000000#32 : BitVec 32) = pat 0 from by decide, ofBits_pat_zero]; norm_num

theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- The greatest entry is the one that is met and bounds all the others. -/
theorem field_of {y : EReal} {v : BitVec 32} (hv : ∃ l : Fin 256, reached y l.val = v)
    (hb : ∀ l : Fin 256, (reached y l.val).toInt ≤ v.toInt) : field y = v := by
  apply BitVec.eq_of_toInt_eq
  unfold field
  rw [← Finset.fold_hom (op' := max) (m := BitVec.toInt) toInt_maxsi]
  apply le_antisymm
  · rw [Finset.fold_max_le]
    refine ⟨?_, fun l _ => hb l⟩
    have : (2147483648#32 : BitVec 32).toInt = -2147483648 := by decide
    have h2 := BitVec.le_toInt v
    rw [this]; simpa using h2
  · obtain ⟨l, rfl⟩ := hv
    rw [Finset.le_fold_max]
    exact Or.inr ⟨l, Finset.mem_univ _, le_rfl⟩

theorem reached_toInt (y : EReal) (l : Fin 256) :
    (reached y l.val).toInt = if Ideal.ofBits .f32 (pat l.val) ≤ y ∧ l.val ≠ 255 then (l.val : ℤ) * 8388608 else 0 := by
  unfold reached
  split
  · rename_i h
    have h3 := l.isLt
    have h4 := h.2
    exact pat_toInt ⟨l.val, by omega⟩
  · rfl

/-- Between `2 ^ (K - 127)` and `2 ^ (K - 126)` the exponent field is `K`. -/
theorem field_eq {y : EReal} {K : ℕ} (h1 : 1 ≤ K) (h2 : K ≤ 252)
    (lo : (((2 : ℝ) ^ ((K : ℤ) - 127) : ℝ) : EReal) ≤ y) (hi : y < (((2 : ℝ) ^ ((K : ℤ) - 126) : ℝ) : EReal)) :
    field y = pat K := by
  have hp := pat_toInt ⟨K, by omega⟩
  simp only at hp
  apply field_of
  · refine ⟨⟨K, by omega⟩, ?_⟩
    unfold reached
    rw [if_pos ⟨by rw [ofBits_pat h1 (by omega)]; exact lo, by simp only; omega⟩]
  · intro l
    rw [reached_toInt, hp]
    split
    · rename_i h
      by_contra hc
      have hl : K + 1 ≤ l.val := by
        by_contra hd; apply hc; have : (l.val : ℤ) ≤ K := by omega
        omega
      have h3 := l.isLt
      have h4 := h.2
      have h5 := h.1
      rw [ofBits_pat (by omega) (by omega)] at h5
      have h6 := lt_of_le_of_lt h5 hi
      rw [EReal.coe_lt_coe_iff] at h6
      have h7 : (2 : ℝ) ^ ((K : ℤ) - 126) ≤ (2 : ℝ) ^ ((l.val : ℤ) - 127) :=
        zpow_le_zpow_right₀ (by norm_num) (by omega)
      exact absurd h6 (not_lt.mpr h7)
    · omega

/-- Below the least normal value the exponent field is zero. -/
theorem field_small {y : EReal} (hy : y < (((2 : ℝ) ^ (-126 : ℤ) : ℝ) : EReal)) : field y = 0#32 := by
  have hz : ∀ l : Fin 256, reached y l.val = 0#32 := by
    intro l
    apply BitVec.eq_of_toInt_eq
    rw [reached_toInt]
    split
    · rename_i h
      rcases Nat.eq_zero_or_pos l.val with h0 | h0
      · rw [h0]; rfl
      · exfalso
        have h3 := l.isLt
        have h4 := h.2
        have h5 := h.1
        rw [ofBits_pat (by omega) (by omega)] at h5
        have h6 := lt_of_le_of_lt h5 hy
        rw [EReal.coe_lt_coe_iff] at h6
        have h7 : (2 : ℝ) ^ (-126 : ℤ) ≤ (2 : ℝ) ^ ((l.val : ℤ) - 127) :=
          zpow_le_zpow_right₀ (by norm_num) (by omega)
        exact absurd h6 (not_lt.mpr h7)
    · rfl
  exact field_of ⟨0, hz 0⟩ fun l => by rw [hz l]

theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

theorem pat_succ : ∀ k : Fin 254, pat k.val + 8388608#32 = pat (k.val + 1) := by unfold pat; decide +kernel
theorem pat_inv : ∀ k : Fin 255, 2130706432#32 - pat k.val = pat (254 - k.val) := by unfold pat; decide +kernel
theorem pat_ne_zero : ∀ k : Fin 254, pat (k.val + 1) ≠ 0#32 := by unfold pat; decide +kernel

/-- The floor of the base-two logarithm places `y` between two powers of two. -/
theorem floor_log {y : ℝ} (hy : 0 < y) :
    (2 : ℝ) ^ ⌊Real.log y / Real.log 2⌋ ≤ y ∧ y < (2 : ℝ) ^ (⌊Real.log y / Real.log 2⌋ + 1) := by
  have h2 : (0 : ℝ) < Real.log 2 := Real.log_pos (by norm_num)
  constructor
  · rw [← Real.log_le_log_iff (by positivity) hy, Real.log_zpow]
    have := Int.floor_le (Real.log y / Real.log 2)
    rwa [le_div_iff₀ h2] at this
  · rw [← Real.log_lt_log_iff hy (by positivity), Real.log_zpow]
    have := Int.lt_floor_add_one (Real.log y / Real.log 2)
    rw [div_lt_iff₀ h2] at this
    push_cast
    exact this

/-- The scale the kernel builds from the exponent field is the reference's power of two, and so is its
    reciprocal. -/
theorem scale_eq (y : EReal) :
    Ideal.ofBits .f32 (sbits y) = Ideal.exp2 (refExp ((Real.log 2 : ℝ) : EReal) y)
    ∧ Ideal.ofBits .f32 (2130706432#32 - sbits y)
        = Ideal.exp2 (Ideal.ofBits .f32 0x00000000#32 - refExp ((Real.log 2 : ℝ) : EReal) y) := by
  have hone : ∀ {b : BitVec 32} {e : EReal}, b = 1065353216#32 → e = ((0 : ℝ) : EReal) →
      Ideal.ofBits .f32 b = Ideal.exp2 e
      ∧ Ideal.ofBits .f32 (2130706432#32 - b) = Ideal.exp2 (Ideal.ofBits .f32 0x00000000#32 - e) := by
    rintro b e rfl rfl
    have hz := exp2_int 0
    rw [Int.cast_zero] at hz
    rw [show (2130706432#32 - 1065353216#32 : BitVec 32) = 0x3F800000#32 from by decide,
      show (1065353216#32 : BitVec 32) = 0x3F800000#32 from by decide, ofBits_one, ofBits_zero, ← EReal.coe_sub, sub_zero,
      hz, zpow_zero]
    exact ⟨rfl, rfl⟩
  by_cases hb : y < Ideal.ofBits .f32 0x7E800000#32
  swap
  · apply hone
    · unfold sbits expField
      rw [if_neg hb, if_neg (by simp)]
    · unfold refExp
      rw [if_neg (fun h => hb h.2), ofBits_zero]
  by_cases hs : Ideal.ofBits .f32 0x00800000#32 ≤ y
  swap
  · apply hone
    · unfold sbits expField
      rw [if_pos hb, field_small (by rw [← ofBits_min]; exact not_le.mp hs), if_neg (by simp)]
    · unfold refExp
      rw [if_neg (fun h => hs h.1), ofBits_zero]
  have hn : refExp ((Real.log 2 : ℝ) : EReal) y
      = Ideal.liftRound Int.floor (Ideal.div (Ideal.log y) ((Real.log 2 : ℝ) : EReal)) + ((1 : ℝ) : EReal) := by
    unfold refExp
    rw [if_pos ⟨hs, hb⟩, ofBits_one]
  have hE : expField y = field y := by unfold expField; rw [if_pos hb]
  rw [ofBits_big] at hb
  rw [ofBits_min] at hs
  induction y with
  | bot => exact absurd hs (by simp)
  | top => exact absurd hb (by simp)
  | coe r =>
    rw [EReal.coe_lt_coe_iff] at hb
    rw [EReal.coe_le_coe_iff] at hs
    have hr : 0 < r := lt_of_lt_of_le (by positivity) hs
    have h2 : (0 : ℝ) < Real.log 2 := Real.log_pos (by norm_num)
    obtain ⟨lo, hi⟩ := floor_log hr
    have hlog : Ideal.log ((r : ℝ) : EReal) = ((Real.log r : ℝ) : EReal) := if_neg (not_le.mpr hr)
    have hdiv : Ideal.div ((Real.log r : ℝ) : EReal) ((Real.log 2 : ℝ) : EReal) = ((Real.log r / Real.log 2 : ℝ) : EReal) := by
      unfold Ideal.div
      rw [if_neg (by rw [← EReal.coe_zero, EReal.coe_eq_coe_iff]; exact ne_of_gt h2), ← EReal.coe_inv, ← EReal.coe_mul]
      rfl
    rw [hlog, hdiv, Ideal.liftRound_coe] at hn
    generalize ⌊Real.log r / Real.log 2⌋ = n at lo hi hn
    have n1 : -126 ≤ n := by
      have h := lt_of_le_of_lt hs hi
      rw [zpow_lt_zpow_iff_right₀ (by norm_num)] at h
      omega
    have n2 : n < 126 := by
      have h := lt_of_le_of_lt lo hb
      rwa [zpow_lt_zpow_iff_right₀ (by norm_num)] at h
    obtain ⟨K, hK⟩ : ∃ K : ℕ, (K : ℤ) = n + 127 := ⟨(n + 127).toNat, by omega⟩
    have hf : field (r : EReal) = pat K := by
      apply field_eq (by omega) (by omega)
      · rw [EReal.coe_le_coe_iff, show (K : ℤ) - 127 = n by omega]; exact lo
      · rw [EReal.coe_lt_coe_iff, show (K : ℤ) - 126 = n + 1 by omega]; exact hi
    have hsb : sbits (r : EReal) = pat (K + 1) := by
      unfold sbits
      rw [hE, hf]
      obtain ⟨J, rfl⟩ : ∃ J, K = J + 1 := ⟨K - 1, by omega⟩
      rw [if_pos ⟨pat_ne_zero ⟨J, by omega⟩, (pat_ne ⟨J + 1, by omega⟩).mpr (by simp only; omega)⟩]
      exact pat_succ ⟨J + 1, by omega⟩
    have hexp : refExp ((Real.log 2 : ℝ) : EReal) (r : EReal) = ((((n + 1 : ℤ) : ℝ) : ℝ) : EReal) := by
      rw [hn, ← EReal.coe_add]; push_cast; rfl
    rw [hsb, hexp]
    constructor
    · rw [ofBits_pat (by omega) (by omega), exp2_int]
      congr 2; push_cast; omega
    · have hi := pat_inv ⟨K + 1, by omega⟩
      simp only at hi
      rw [hi, ofBits_pat (by omega) (by omega), ofBits_zero, ← EReal.coe_sub,
        show (0 : ℝ) - ((n + 1 : ℤ) : ℝ) = ((-(n + 1) : ℤ) : ℝ) by push_cast; ring, exp2_int]
      congr 2; omega

end Cert.Quant

end
-- ==== Proof.Spec.lean ====
/- The optimizer's step on one weight, and the scale of a block, on the extended reals: what both programs compute. -/
module

public import proofs.«01_k».proof.Proof.Quant

@[expose] public section

noncomputable section

namespace Cert.Spec

open Idealize.ShloMosaic

/-- The new first moment. -/
def m1 (g m : EReal) : EReal := Ideal.ofBits .f32 0x3F666666#32 * m + Ideal.ofBits .f32 0x3DCCCCCD#32 * g

/-- The new second moment. -/
def v1 (g v : EReal) : EReal := Ideal.ofBits .f32 0x3F733333#32 * v + Ideal.ofBits .f32 0x3D4CCCCD#32 * (g * g)

/-- The update from the two moments without their bias and the weight. -/
def upd (a b p : EReal) : EReal :=
  Ideal.ofBits .f32 0x3C23D70A#32 *
    (Ideal.div a (Ideal.sqrt b + Ideal.ofBits .f32 0x322BCC77#32) + Ideal.ofBits .f32 0x3DCCCCCD#32 * p)

/-- The largest magnitude of 128 weights. -/
def amax (w : Fin 128 → EReal) : EReal :=
  Finset.univ.fold max (Ideal.ofBits .f32 0xFF800000#32) fun l => FloatOps.absf (F := Ideal) (φ := .f32) (w l)

/-- The largest magnitude of 128 weights over 448. -/
def level (w : Fin 128 → EReal) : EReal := amax w * Ideal.ofBits .f32 0x3B124925#32

/-- A weight over its block's scale, clipped; `s` is the scale's inverse. -/
def code (w s : EReal) : EReal :=
  min (Ideal.ofBits .f32 0x43E00000#32) (max (Ideal.ofBits .f32 0xC3E00000#32) (w * s))

end Cert.Spec

end
-- ==== Proof.Point.lean ====
/- What the kernel's vector functions of one trip give at an index, on the extended reals. -/
module

public import proofs.«01_k».proof.Proof.Row
public import proofs.«01_k».proof.Proof.Spec
public import Idealize.ShloMosaic.Lib.Pointwise

@[expose] public section

set_option maxRecDepth 20000

noncomputable section

namespace Cert.KernelIdeal.Row

open Idealize.ShloMosaic Cert.KernelIdeal Cert.KernelIdeal.Gen Cert.KernelIdeal.Facts
open Idealize.ShloMosaic.Pointwise

theorem select_ofBool {α : Type} (p : Prop) [Decidable p] (a b : α) :
    Scalar.select (BitVec.ofBool (decide p)) a b = if p then a else b := by
  by_cases h : p <;> simp [Scalar.select, h]

theorem cmpi_ne (x y : BitVec 32) : IntOp.cmpi .ne x y = BitVec.ofBool (decide (x ≠ y)) := by
  by_cases h : x = y
  · simp [IntOp.cmpi, h]
  · have h2 : (x != y) = true := bne_iff_ne.mpr h
    simp [IntOp.cmpi, h, h2]

theorem select_and {α : Type} (p q : Prop) [Decidable p] [Decidable q] (a b : α) :
    Scalar.select (IntOp.andi (BitVec.ofBool (decide p)) (BitVec.ofBool (decide q))) a b = if p ∧ q then a else b := by
  by_cases h : p <;> by_cases h' : q <;> simp [Scalar.select, IntOp.andi, h, h']

theorem mask0 : ∀ (r : Fin 16) (t : Fin 896),
    (IntOp.cmpi .eq (IntOp.andi (BitVec.ofNat 32 t.val) 31#32) (IntOp.addi (BitVec.ofNat 32 r.val) 0#32))
      = BitVec.ofBool (decide (t.val % 32 = r.val)) := by decide +kernel

theorem mask16 : ∀ (r : Fin 16) (t : Fin 896),
    (IntOp.cmpi .eq (IntOp.andi (BitVec.ofNat 32 t.val) 31#32) (IntOp.addi (BitVec.ofNat 32 r.val) 16#32))
      = BitVec.ofBool (decide (t.val % 32 = r.val + 16)) := by decide +kernel

theorem partV0_apply (w : Vec Ideal S1x1x1x896 .f32) (r : Fin 16) (t : Fin 896) :
    partV (F := Ideal) 0#32 w (ix2 r t) = if t.val % 32 = r.val then w (ix4 0 0 0 t) else 0 := by
  pointwise [partV, maskV]
  rw [mask0, select_ofBool]

theorem partV16_apply (w : Vec Ideal S1x1x1x896 .f32) (r : Fin 16) (t : Fin 896) :
    partV (F := Ideal) 16#32 w (ix2 r t) = if t.val % 32 = r.val + 16 then w (ix4 0 0 0 t) else 0 := by
  pointwise [partV, maskV]
  rw [mask16, select_ofBool]

/-- The left operand at a row of one of its six groups of thirty-two: the group's scales on the diagonals. -/
theorem lhsV_apply (w : Fin 6 → Vec Ideal S1x1x1x896 .f32) (n : Fin 6) (r : Fin 32) (t : Fin 896)
    (R : Fin 192) (hR : R.val = 32 * n.val + r.val) :
    lhsV (F := Ideal) (w 0) (w 1) (w 2) (w 3) (w 4) (w 5) (ix2 R t)
      = if t.val % 32 = r.val then w n (ix4 0 0 0 t) else 0 := by
  obtain ⟨R, hlt⟩ := R
  simp only at hR
  subst hR
  pointwise [lhsV]
  rcases r with ⟨r, hr⟩
  by_cases h : r < 16
  · fin_cases n <;> simp (disch := omega) only [dif_pos, dif_neg, partV0_apply, partV16_apply] <;>
      (congr 1; simp; try omega)
  · fin_cases n <;> simp (disch := omega) only [dif_pos, dif_neg, partV0_apply, partV16_apply] <;>
      (congr 1; simp; try omega)

/-- The products at a row of one of the six groups: the sum over the ranks of scale by code. -/
theorem sumsV_apply (w : Fin 6 → Vec Ideal S1x1x1x896 .f32) (cc : Vec Ideal S28x32x256 .fp8e5m2) (n : Fin 6)
    (r : Fin 32) (R : Fin 192) (hR : R.val = 32 * n.val + r.val) (t : Fin 256) :
    sumsV (F := Ideal) (w 0) (w 1) (w 2) (w 3) (w 4) (w 5) cc (ix2 R t)
      = ∑ q : Fin 28, w n (ix4 0 0 0 ⟨32 * q.val + r.val, by omega⟩) * cc (ix3 q r t) := by
  pointwise [sumsV]
  simp only [lhsV_apply w n r _ R hR]
  rw [← Equiv.sum_comp (finProdFinEquiv (m := 28) (n := 32)), Fintype.sum_prod_type]
  refine Finset.sum_congr rfl fun q _ => ?_
  rw [Finset.sum_eq_single r]
  · have h1 : (finProdFinEquiv (q, r)).val = r.val + 32 * q.val := rfl
    have h2 : (finProdFinEquiv (q, r)).val % 32 = r.val := by omega
    have h3 : (finProdFinEquiv (q, r)).val / 32 = q.val := by omega
    rw [if_pos h2]
    congr 2
    · congr 1; apply Fin.ext; simp only [h1]; omega
    · congr 1 <;> (apply Fin.ext; first | exact h3 | exact h2)
  · intro r' _ hne
    have h1 : (finProdFinEquiv (q, r')).val = r'.val + 32 * q.val := rfl
    rw [if_neg, zero_mul]
    intro h
    apply hne
    apply Fin.ext
    omega
  · intro h
    exact absurd (Finset.mem_univ _) h

theorem gV0_apply (s : FVec Ideal S192x256 .f32) (r : Fin 32) (l : Fin 128) :
    gV0 s (ix2 r l) = (s (ix2 ⟨128 + r.val, by omega⟩ ⟨l.val, by omega⟩) + s (ix2 ⟨64 + r.val, by omega⟩ ⟨l.val, by omega⟩)
      + s (ix2 ⟨r.val, by omega⟩ ⟨l.val, by omega⟩)) * Named.named (F := Ideal) κ "inv_ranks" 0x3D124925#32 := by
  pointwise [gV0]

theorem gV1_apply (s : FVec Ideal S192x256 .f32) (r : Fin 32) (l : Fin 128) :
    gV1 s (ix2 r l) = (s (ix2 ⟨160 + r.val, by omega⟩ ⟨128 + l.val, by omega⟩)
      + s (ix2 ⟨96 + r.val, by omega⟩ ⟨128 + l.val, by omega⟩)
      + s (ix2 ⟨32 + r.val, by omega⟩ ⟨128 + l.val, by omega⟩)) * Named.named (F := Ideal) κ "inv_ranks" 0x3D124925#32 := by
  pointwise [gV1]

theorem mV_apply (g m : FVec Ideal S32x128 .f32) (r : Fin 32) (l : Fin 128) :
    mV g m (ix2 r l) = Spec.m1 (g (ix2 r l)) (m (ix2 r l)) := by
  pointwise [mV, Spec.m1]

theorem vV_apply (g v : FVec Ideal S32x128 .f32) (r : Fin 32) (l : Fin 128) :
    vV g v (ix2 r l) = Spec.v1 (g (ix2 r l)) (v (ix2 r l)) := by
  pointwise [vV, Spec.v1]

theorem updV_apply (g p m v : FVec Ideal S32x128 .f32) (r : Fin 32) (l : Fin 128) :
    updV g p m v (ix2 r l) = Spec.upd (mV g m (ix2 r l) * Named.named (F := Ideal) κ "inv_bc1" 0x3F91B733#32)
      (vV g v (ix2 r l) * Named.named (F := Ideal) κ "inv_bc2" 0x3FC78729#32) (p (ix2 r l)) := by
  pointwise [updV, Spec.upd]

theorem newV_apply (g p m v : FVec Ideal S32x128 .f32) (r : Fin 32) (l : Fin 128) :
    newV g p m v (ix2 r l) = p (ix2 r l) - updV g p m v (ix2 r l) := by
  pointwise [newV]

theorem yV_apply (g : FVec Ideal S32x128 .f32) (r : Fin 32) :
    yV g (ix2 r 0) = Spec.level fun l => g (ix2 r l) := by
  pointwise [yV, Spec.level, Spec.amax]

theorem patV_apply (r : Fin 32) (l : Fin 256) : patV (ix2 r l) = Quant.pat l.val := by
  pointwise [patV]
  rfl

theorem reachedV_apply (y : FVec Ideal S32x1 .f32) (P : IVec S32x256 32) (r : Fin 32) (l : Fin 256) :
    reachedV y P (ix2 r l)
      = if Ideal.ofBits .f32 (P (ix2 r l)) ≤ y (ix2 r 0) ∧ P (ix2 r l) ≠ 2139095040#32 then P (ix2 r l) else 0#32 := by
  pointwise [reachedV]
  rw [cmpi_ne, select_and]

theorem fieldV_apply (z : IVec S32x256 32) (r : Fin 32) :
    fieldV z (ix2 r 0) = Finset.univ.fold IntOp.maxsi 2147483648#32 fun l : Fin 256 => z (ix2 r l) := by
  pointwise [fieldV]

theorem expV_apply (y : FVec Ideal S32x1 .f32) (r : Fin 32) : expV y (ix2 r 0) = Quant.expField (y (ix2 r 0)) := by
  pointwise [expV]
  rw [fieldV_apply]
  unfold Quant.expField Quant.field Quant.reached
  simp only [reachedV_apply, patV_apply, Quant.pat_ne]

theorem scaleV_apply (e : IVec S32x1 32) (r : Fin 32) :
    scaleV e (ix2 r 0)
      = if e (ix2 r 0) ≠ 0#32 ∧ e (ix2 r 0) ≠ 2139095040#32 then e (ix2 r 0) + 8388608#32 else 1065353216#32 := by
  pointwise [scaleV]
  rw [cmpi_ne, cmpi_ne, select_and]
  rfl

/-- The pattern of a row's scale is the quantiser's. -/
theorem sbV_apply (w : FVec Ideal S32x128 .f32) (r : Fin 32) :
    sbV w (ix2 r 0) = Quant.sbits (Spec.level fun l => w (ix2 r l)) := by
  unfold sbV
  rw [scaleV_apply, expV_apply, yV_apply]
  rfl

theorem codesV_apply (w : FVec Ideal S32x128 .f32) (r : Fin 32) (l : Fin 128) :
    codesV w (ix2 r l) = Spec.code (w (ix2 r l))
      (Ideal.ofBits .f32 (2130706432#32 - Quant.sbits (Spec.level fun l => w (ix2 r l)))) := by
  pointwise [codesV, Spec.code]
  rw [sbV_apply]
  rfl

theorem psV_apply (b : ℕ) (hb : b < 8) (prev w : FVec Ideal S32x128 .f32) (r : Fin 32) (l : Fin 128) :
    psV (BitVec.ofNat 32 b) prev w (ix2 r l)
      = if l.val = b then Ideal.ofBits .f32 (Quant.sbits (Spec.level fun l => w (ix2 r l))) else prev (ix2 r l) := by
  have h : ∀ (l : Fin 128) (b : Fin 8), IntOp.cmpi .eq (BitVec.ofNat 32 l.val) (BitVec.ofNat 32 b.val)
      = BitVec.ofBool (decide (l.val = b.val)) := by decide +kernel
  pointwise [psV]
  rw [sbV_apply, h l ⟨b, hb⟩, select_ofBool]

end Cert.KernelIdeal.Row

end
-- ==== Proof.Regroup.lean ====
/- What the kernel leaves in the scratch of split scales: for each chunk of thirty-two rows and each piece, a lane for
   each pair of a rank and a row of the chunk. The first piece is the scale, the other two are zero when the scales are
   finite. -/
module

public import proofs.«01_k».proof.Proof.Gen.KernelIdeal.Frame
public import Idealize.ShloMosaic.Lib.Pointwise
public import Idealize.ShloMosaic.Lib.Pipeline.ValueKit.Tiles

@[expose] public section

set_option maxRecDepth 100000
set_option maxHeartbeats 4000000

noncomputable section

namespace Cert.KernelIdeal.Regroup

open Idealize.ShloMosaic Idealize.ShloMosaic.TcCoe Cert.KernelIdeal Cert.KernelIdeal.Gen Cert.KernelIdeal.Facts
open Idealize.ShloMosaic.Pointwise

variable {F : FTy → Type} [FloatOps F] [Named F]

theorem rank_inb (n : Fin 28) : ∀ a, (![n.val, 0, 0] : Fin 3 → ℕ) a + S1x8x128.size a ≤ S28x8x128.size a := by
  revert n; decide +kernel

/-- One rank's scales. -/
def srcV (arg3 : Memref sig .tc .vmem S28x8x128 .f32) (X : BufTy.Contents (Elt F) arg3.view.ty) (n : Fin 28) :
    FVec F S8x128 .f32 :=
  shapeCast S8x128
    (View.readAt (Elt F) arg3.view (Rect.unit (s := S28x8x128) ![n.val, 0, 0] S1x8x128.size (rank_inb n)).toLoadRect X)
    shapeCasts_S1x8x128_S8x128

/-- The lanes turned by a number of quarters. -/
def rotV (n : ℕ) (v : FVec F S8x128 .f32) : FVec F S8x128 .f32 :=
  match n with
  | 0 => v
  | n + 1 => dynamicRotate 1 (BitVec.ofNat 32 (32 * (n + 1))) none v rotates_S8x128_d1

/-- Four vectors, each in its quarter of the lanes. -/
def quartersV (p0 p1 p2 p3 : FVec F S8x128 .f32) : FVec F S8x128 .f32 :=
  select (cmpi .sge (iota .tc S8x128 32 [1] iota_S8x128_d1_w32) (broadcast S8x128 96#32)) p3
    (select (cmpi .sge (iota .tc S8x128 32 [1] iota_S8x128_d1_w32) (broadcast S8x128 64#32)) p2
      (select (cmpi .sge (iota .tc S8x128 32 [1] iota_S8x128_d1_w32) (broadcast S8x128 32#32)) p1 p0))

/-- Chunk `c` of four ranks side by side. -/
def mergeV (c : Fin 4) (a0 a1 a2 a3 : FVec F S8x128 .f32) : FVec F S8x128 .f32 :=
  quartersV (rotV (0 - c).val a0) (rotV (1 - c).val a1) (rotV (2 - c).val a2) (rotV (3 - c).val a3)

/-- The leading bf16 part of a value. -/
def topV (x : FVec F S8x128 .f32) : FVec F S8x128 .f32 := extf .f32 (truncf .bf16 x bitsLt_bf16_f32) bitsLt_bf16_f32

/-- Piece `s` of a value. -/
def pieceV (s : Fin 3) (x : FVec F S8x128 .f32) : FVec F S8x128 .f32 :=
  match s with
  | 0 => topV x
  | 1 => topV (subf x (topV x))
  | 2 => topV (subf (subf x (topV x)) (topV (subf x (topV x))))

theorem w_inb (c : Fin 4) (s : Fin 3) (j : Fin 7) :
    ∀ a, (![c.val, s.val, 0, 128 * j.val] : Fin 4 → ℕ) a + S1x1x8x128.size a ≤ S4x3x8x896.size a := by
  revert c s j; decide +kernel

/-- One store into the scratch. -/
def P (arg3 : Memref sig .tc .vmem S28x8x128 .f32) (X : BufTy.Contents (Elt F) arg3.view.ty)
    (j : Fin 7) (c : Fin 4) (s : Fin 3) : View.Piece (Elt F) S4x3x8x896 .f32 :=
  ⟨Rect.unit (s := S4x3x8x896) ![c.val, s.val, 0, 128 * j.val] S1x1x8x128.size (w_inb c s j),
    shapeCast S1x1x8x128
      (pieceV s (mergeV c (srcV arg3 X ⟨4 * j.val, by omega⟩) (srcV arg3 X ⟨4 * j.val + 1, by omega⟩)
        (srcV arg3 X ⟨4 * j.val + 2, by omega⟩) (srcV arg3 X ⟨4 * j.val + 3, by omega⟩)))
      shapeCasts_S8x128_S1x1x8x128⟩

/-- The stores of all the chunks and pieces of four ranks, last first. -/
def PL (arg3 : Memref sig .tc .vmem S28x8x128 .f32) (X : BufTy.Contents (Elt F) arg3.view.ty) (j : Fin 7) :
    List (View.Piece (Elt F) S4x3x8x896 .f32) :=
  [P arg3 X j 3 2, P arg3 X j 3 1, P arg3 X j 3 0, P arg3 X j 2 2, P arg3 X j 2 1, P arg3 X j 2 0,
   P arg3 X j 1 2, P arg3 X j 1 1, P arg3 X j 1 0, P arg3 X j 0 2, P arg3 X j 0 1, P arg3 X j 0 0]

/-- The stores into the scratch are those of the seven groups of four ranks. -/
theorem stores_eq (c : Dev nD) (arg3 : Memref sig .tc .vmem S28x8x128 .f32) (harg3 : arg3.IsWhole)
    (x1 : Vec F S28x8x128 .f32) :
    kernelRun0_A.sl.HS0_84 c arg3 harg3 x1 =
      PL arg3 (harg3.unread x1) 6 ++ (PL arg3 (harg3.unread x1) 5 ++ (PL arg3 (harg3.unread x1) 4
        ++ (PL arg3 (harg3.unread x1) 3 ++ (PL arg3 (harg3.unread x1) 2 ++ (PL arg3 (harg3.unread x1) 1
          ++ PL arg3 (harg3.unread x1) 0))))) := by
  rfl

/-! ## At an index -/

theorem sge_lane (k : ℕ) (l : Fin 128) (hk : k < 128) :
    IntOp.cmpi .sge (BitVec.ofNat 32 l.val) (BitVec.ofNat 32 k) = BitVec.ofBool (decide (k ≤ l.val)) := by
  have h : ∀ (l k : Fin 128), IntOp.cmpi .sge (BitVec.ofNat 32 l.val) (BitVec.ofNat 32 k.val)
      = BitVec.ofBool (decide (k.val ≤ l.val)) := by decide +kernel
  exact h l ⟨k, hk⟩

theorem select_ofBool {α : Type} (p : Prop) [Decidable p] (a b : α) :
    Scalar.select (BitVec.ofBool (decide p)) a b = if p then a else b := by
  by_cases h : p <;> simp [Scalar.select, h]

/-- Turning by `n` quarters takes a lane from `32 n` lanes before it. -/
theorem rotV_apply (n : ℕ) (hn : n < 4) (v : FVec Ideal S8x128 .f32) (b : Fin 8) (l : Fin 128) :
    rotV n v (ix2 b l) = v (ix2 b ⟨(l.val + 128 - 32 * n) % 128, Nat.mod_lt _ (by decide)⟩) := by
  interval_cases n
  · show v (ix2 b l) = v (ix2 b ⟨_, _⟩)
    congr 2
    apply Fin.ext
    simp only
    omega
  all_goals
    pointwise [rotV]

theorem quartersV_apply (p0 p1 p2 p3 : FVec Ideal S8x128 .f32) (b : Fin 8) (l : Fin 128) :
    quartersV p0 p1 p2 p3 (ix2 b l)
      = if 96 ≤ l.val then p3 (ix2 b l) else if 64 ≤ l.val then p2 (ix2 b l) else
        if 32 ≤ l.val then p1 (ix2 b l) else p0 (ix2 b l) := by
  pointwise [quartersV]
  rw [sge_lane 96 l (by decide), sge_lane 64 l (by decide), sge_lane 32 l (by decide)]
  simp only [select_ofBool]

theorem sub_val : ∀ i c : Fin 4, (i - c).val = (i.val + 4 - c.val) % 4 := by decide

/-- Chunk `c` of four ranks: a lane holds the scale of its rank at its row of the chunk. -/
theorem mergeV_apply (c : Fin 4) (a : Fin 4 → FVec Ideal S8x128 .f32) (b : Fin 8) (l : Fin 128) :
    mergeV c (a 0) (a 1) (a 2) (a 3) (ix2 b l)
      = a ⟨l.val / 32, by omega⟩ (ix2 b ⟨32 * c.val + l.val % 32, by omega⟩) := by
  have key : ∀ i : Fin 4, l.val / 32 = i.val → rotV (i - c).val (a i) (ix2 b l)
      = a ⟨l.val / 32, by omega⟩ (ix2 b ⟨32 * c.val + l.val % 32, by omega⟩) := by
    intro i hi
    rw [rotV_apply _ (i - c).isLt]
    have hi' : (⟨l.val / 32, by omega⟩ : Fin 4) = i := Fin.ext hi
    rw [hi']
    congr 2
    apply Fin.ext
    simp only [sub_val]
    omega
  unfold mergeV
  rw [quartersV_apply]
  split_ifs
  · exact key 3 (by show _ = 3; omega)
  · exact key 2 (by show _ = 2; omega)
  · exact key 1 (by show _ = 1; omega)
  · exact key 0 (by show _ = 0; omega)

theorem topV_apply (x : FVec Ideal S8x128 .f32) : topV x = x := rfl

theorem sub_self_finite {x : EReal} (h1 : x ≠ ⊤) (h2 : x ≠ ⊥) : x - x = 0 := by
  lift x to ℝ using ⟨h1, h2⟩
  rw [← EReal.coe_sub, sub_self, EReal.coe_zero]

/-- The first piece of a finite value is the value, and the others are zero. -/
theorem pieceV_apply (s : Fin 3) (x : FVec Ideal S8x128 .f32) (b : Fin 8) (l : Fin 128)
    (h1 : x (ix2 b l) ≠ ⊤) (h2 : x (ix2 b l) ≠ ⊥) :
    pieceV s x (ix2 b l) = if s.val = 0 then x (ix2 b l) else 0 := by
  fin_cases s
  · rfl
  · show x (ix2 b l) - x (ix2 b l) = 0
    exact sub_self_finite h1 h2
  · show (x (ix2 b l) - x (ix2 b l)) - (x (ix2 b l) - x (ix2 b l)) = 0
    rw [sub_self_finite h1 h2, sub_zero]

theorem drop_apply (v : FVec Ideal S1x8x128 .f32) (b : Fin 8) (l : Fin 128) :
    shapeCast S8x128 v shapeCasts_S1x8x128_S8x128 (ix2 b l) = v (ix3 0 b l) := by
  pointwise

theorem lift_apply (v : FVec Ideal S8x128 .f32) (z z' : Fin 1) (b : Fin 8) (l : Fin 128) :
    shapeCast S1x1x8x128 v shapeCasts_S8x128_S1x1x8x128 (ix4 z z' b l) = v (ix2 b l) := by
  pointwise

theorem srcV_apply (arg3 : Memref sig .tc .vmem S28x8x128 .f32) (harg3 : arg3.IsWhole) (x1 : Vec Ideal S28x8x128 .f32)
    (n : Fin 28) (b : Fin 8) (l : Fin 128) : srcV arg3 (harg3.unread x1) n (ix2 b l) = x1 (ix3 n b l) := by
  unfold srcV
  rw [drop_apply, View.readAt_eq_ld, harg3.read_unread]
  refine congrArg x1 (funext fun a => Fin.ext ((Rect.idx_unit_val _ _ _ _ _).trans ?_))
  fin_cases a
  · rfl
  · exact Nat.zero_add _
  · exact Nat.zero_add _

/-- What the scratch of split scales holds. -/
def W (x1 : Vec Ideal S28x8x128 .f32) : Vec Ideal S4x3x8x896 .f32 := fun y =>
  if (y 1).val = 0 then
    x1 (ix3 ⟨(y 3).val / 32, by have := (y 3).isLt; change _ < 896 at this; omega⟩ ⟨(y 2).val, (y 2).isLt⟩
      ⟨32 * (y 0).val + (y 3).val % 32, by have := (y 0).isLt; change _ < 4 at this; omega⟩)
  else 0

/-- Each store agrees with it. -/
theorem P_apply (arg3 : Memref sig .tc .vmem S28x8x128 .f32) (harg3 : arg3.IsWhole) (x1 : Vec Ideal S28x8x128 .f32)
    (hx : ∀ y, x1 y ≠ ⊤ ∧ x1 y ≠ ⊥) (j : Fin 7) (c : Fin 4) (s : Fin 3)
    (y : (P arg3 (harg3.unread x1) j c s).1.shape.Idx) :
    (P arg3 (harg3.unread x1) j c s).2 y = W x1 ((P arg3 (harg3.unread x1) j c s).1.emb y) := by
  have hm : ∀ (b : Fin 8) (l : Fin 128), mergeV c (srcV arg3 (harg3.unread x1) ⟨4 * j.val, by omega⟩)
      (srcV arg3 (harg3.unread x1) ⟨4 * j.val + 1, by omega⟩) (srcV arg3 (harg3.unread x1) ⟨4 * j.val + 2, by omega⟩)
      (srcV arg3 (harg3.unread x1) ⟨4 * j.val + 3, by omega⟩) (ix2 b l)
      = x1 (ix3 ⟨4 * j.val + l.val / 32, by omega⟩ b ⟨32 * c.val + l.val % 32, by omega⟩) := by
    intro b l
    refine (mergeV_apply c (fun i : Fin 4 => srcV arg3 (harg3.unread x1) ⟨4 * j.val + i.val, by omega⟩) b l).trans ?_
    exact srcV_apply arg3 harg3 x1 _ b _
  obtain ⟨z, z', b, l, rfl⟩ : ∃ (z z' : Fin 1) (b : Fin 8) (l : Fin 128), y = ix4 z z' b l :=
    ⟨y 0, y 1, y 2, y 3, eq_ix4 y⟩
  have hv := hx (ix3 ⟨4 * j.val + l.val / 32, by omega⟩ b ⟨32 * c.val + l.val % 32, by omega⟩)
  rw [← hm b l] at hv
  refine ((lift_apply _ z z' b l).trans (pieceV_apply s _ b l hv.1 hv.2)).trans ?_
  rw [hm b l]
  have e (a : Fin 4) : ((P arg3 (harg3.unread x1) j c s).1.emb (ix4 z z' b l) a).val
      = (![c.val, s.val, 0, 128 * j.val] : Fin 4 → ℕ) a + ((ix4 z z' b l : S1x1x8x128.Idx) a).val := by
    show (![c.val, s.val, 0, 128 * j.val] : Fin 4 → ℕ) a + 1 * ((ix4 z z' b l : S1x1x8x128.Idx) a).val = _
    rw [one_mul]
  have e0 : ((P arg3 (harg3.unread x1) j c s).1.emb (ix4 z z' b l) 0).val = c.val := by
    refine (e 0).trans ?_
    show c.val + z.val = c.val
    omega
  have e1 : ((P arg3 (harg3.unread x1) j c s).1.emb (ix4 z z' b l) 1).val = s.val := by
    refine (e 1).trans ?_
    show s.val + z'.val = s.val
    omega
  have e2 : ((P arg3 (harg3.unread x1) j c s).1.emb (ix4 z z' b l) 2).val = b.val := by
    refine (e 2).trans ?_
    show 0 + b.val = b.val
    omega
  have e3 : ((P arg3 (harg3.unread x1) j c s).1.emb (ix4 z z' b l) 3).val = 128 * j.val + l.val := e 3
  unfold W
  rw [e1]
  congr 1
  refine congrArg x1 ?_
  congr 1 <;> apply Fin.ext <;> simp only [e0, e2, e3] <;> omega

/-- The stores cover the scratch. -/
theorem cover (c : Dev nD) (arg3 : Memref sig .tc .vmem S28x8x128 .f32) (harg3 : arg3.IsWhole)
    (x1 : Vec Ideal S28x8x128 .f32) (y : S4x3x8x896.Idx) :
    ∃ p ∈ kernelRun0_A.sl.HS0_84 (F := Ideal) c arg3 harg3 x1, y ∈ p.1.set := by
  rw [stores_eq]
  have hp : ∀ (j : Fin 7) (c : Fin 4) (s : Fin 3), P arg3 (harg3.unread x1) j c s ∈ PL arg3 (harg3.unread x1) j := by
    intro j c s
    fin_cases c <;> fin_cases s <;> simp [PL]
  have hall : ∀ (j : Fin 7), PL arg3 (harg3.unread x1) j ⊆ PL arg3 (harg3.unread x1) 6 ++ (PL arg3 (harg3.unread x1) 5
      ++ (PL arg3 (harg3.unread x1) 4 ++ (PL arg3 (harg3.unread x1) 3 ++ (PL arg3 (harg3.unread x1) 2
        ++ (PL arg3 (harg3.unread x1) 1 ++ PL arg3 (harg3.unread x1) 0))))) := by
    intro j p hp
    simp only [List.mem_append]
    fin_cases j
    · exact Or.inr (Or.inr (Or.inr (Or.inr (Or.inr (Or.inr hp)))))
    · exact Or.inr (Or.inr (Or.inr (Or.inr (Or.inr (Or.inl hp)))))
    · exact Or.inr (Or.inr (Or.inr (Or.inr (Or.inl hp))))
    · exact Or.inr (Or.inr (Or.inr (Or.inl hp)))
    · exact Or.inr (Or.inr (Or.inl hp))
    · exact Or.inr (Or.inl hp)
    · exact Or.inl hp
  have h0 : (y 0).val < 4 := (y 0).isLt
  have h1 : (y 1).val < 3 := (y 1).isLt
  have h2 : (y 2).val < 8 := (y 2).isLt
  have h3 : (y 3).val < 896 := (y 3).isLt
  refine ⟨P arg3 (harg3.unread x1) ⟨(y 3).val / 128, by omega⟩ ⟨(y 0).val, h0⟩ ⟨(y 1).val, h1⟩, hall _ (hp _ _ _), ?_⟩
  refine (Rect.mem_set_unit (s := S4x3x8x896) (off := ![(y 0).val, (y 1).val, 0, 128 * ((y 3).val / 128)])
    (size := S1x1x8x128.size)
    (inb := w_inb ⟨(y 0).val, h0⟩ ⟨(y 1).val, h1⟩ ⟨(y 3).val / 128, by omega⟩)).mpr fun a => ?_
  fin_cases a
  · exact ⟨le_refl _, Nat.lt_succ_self _⟩
  · exact ⟨le_refl _, Nat.lt_succ_self _⟩
  · exact ⟨Nat.zero_le _, by show (y 2).val < 0 + 8; omega⟩
  · show 128 * ((y 3).val / 128) ≤ (y 3).val ∧ (y 3).val < 128 * ((y 3).val / 128) + 128
    omega

/-- So a load of the scratch reads it. -/
theorem canon_eq (c : Dev nD) (arg3 : Memref sig .tc .vmem S28x8x128 .f32) (harg3 : arg3.IsWhole)
    (x1 : Vec Ideal S28x8x128 .f32) (hx : ∀ y, x1 y ≠ ⊤ ∧ x1 y ≠ ⊥) :
    View.canon (kernelRun0_A.sl.HS0_84 (F := Ideal) c arg3 harg3 x1) = W x1 := by
  funext y
  refine View.canon_apply_of_pieces (W x1) _ ?_ y (cover c arg3 harg3 x1 y)
  rw [stores_eq]
  have hp : ∀ (j : Fin 7), ∀ p ∈ PL arg3 (harg3.unread x1) j, ∀ y : p.1.shape.Idx, p.2 y = W x1 (p.1.emb y) := by
    intro j p hp
    simp only [PL, List.mem_cons, List.not_mem_nil, or_false] at hp
    rcases hp with rfl | rfl | rfl | rfl | rfl | rfl | rfl | rfl | rfl | rfl | rfl | rfl <;>
      exact P_apply arg3 harg3 x1 hx j _ _
  intro p h
  simp only [List.mem_append] at h
  rcases h with h | h | h | h | h | h | h <;> exact hp _ p h

end Cert.KernelIdeal.Regroup

end
-- ==== Proof.Trip.lean ====
/- What one trip of the kernel's loop writes: eight pieces of each of the five row blocks, newest first, one for each
   column block, and the trip's rows of the scales' scratch. Each is a vector function of what the trip loads. -/
module

public import proofs.«01_k».proof.Proof.Row
public import proofs.«01_k».proof.Proof.Gen.KernelIdeal.Loops

@[expose] public section

set_option maxRecDepth 100000
set_option maxHeartbeats 4000000

noncomputable section

namespace Cert.KernelIdeal.Trip

open Idealize.ShloMosaic Idealize.ShloMosaic.TcCoe Cert.KernelIdeal Cert.KernelIdeal.Gen Cert.KernelIdeal.Facts
open Cert.KernelIdeal.Row

variable {F : FTy → Type} [FloatOps F] [Named F]

/-- A 32 by 128 part of a block of weights or moments. -/
def ldA (arg : Memref sig .tc .vmem S128x1024 .f32) (X : BufTy.Contents (Elt F) arg.view.ty) (off : Fin 2 → ℕ)
    (h : ∀ a, off a + S32x128.size a ≤ S128x1024.size a) : FVec F S32x128 .f32 :=
  View.readAt (Elt F) arg.view (Rect.unit (s := S128x1024) off S32x128.size h).toLoadRect X

/-- One row of the split scales. -/
def ldW (arg : Memref sig .tc .vmem S4x3x8x896 .f32) (X : BufTy.Contents (Elt F) arg.view.ty) (off : Fin 4 → ℕ)
    (h : ∀ a, off a + S1x1x1x896.size a ≤ S4x3x8x896.size a) : Vec F S1x1x1x896 .f32 :=
  View.readAt (Elt F) arg.view (Rect.unit (s := S4x3x8x896) off S1x1x1x896.size h).toLoadRect X

/-- The codes of every rank, of thirty-two rows and two column blocks. -/
def ldC (arg : Memref sig .tc .vmem S28x128x1024 .fp8e5m2) (X : BufTy.Contents (Elt F) arg.view.ty) (off : Fin 3 → ℕ)
    (h : ∀ a, off a + S28x32x256.size a ≤ S28x128x1024.size a) : Vec F S28x32x256 .fp8e5m2 :=
  View.readAt (Elt F) arg.view (Rect.unit (s := S28x128x1024) off S28x32x256.size h).toLoadRect X

/-- The products of column blocks 0 and 1. -/
def S0 (arg2 : Memref sig .tc .vmem S28x128x1024 .fp8e5m2)
    (X_arg2 : BufTy.Contents (Elt F) arg2.view.ty) (arg13 : Memref sig .tc .vmem S4x3x8x896 .f32)
    (X_arg13 : BufTy.Contents (Elt F) arg13.view.ty) (k : Fin k0_t1_loop.trips) : FVec F S192x256 .f32 :=
  sumsV (ldW arg13 X_arg13 (k0_off1 k) (k0_off1_inb k)) (ldW arg13 X_arg13 (k0_off2 k) (k0_off2_inb k)) (ldW arg13 X_arg13 (k0_off3 k) (k0_off3_inb k)) (ldW arg13 X_arg13 (k0_off4 k) (k0_off4_inb k)) (ldW arg13 X_arg13 (k0_off5 k) (k0_off5_inb k)) (ldW arg13 X_arg13 (k0_off6 k) (k0_off6_inb k))
    (ldC arg2 X_arg2 (k0_off7 k) (k0_off7_inb k))

/-- The products of column blocks 2 and 3. -/
def S1 (arg2 : Memref sig .tc .vmem S28x128x1024 .fp8e5m2)
    (X_arg2 : BufTy.Contents (Elt F) arg2.view.ty) (arg13 : Memref sig .tc .vmem S4x3x8x896 .f32)
    (X_arg13 : BufTy.Contents (Elt F) arg13.view.ty) (k : Fin k0_t1_loop.trips) : FVec F S192x256 .f32 :=
  sumsV (ldW arg13 X_arg13 (k0_off10 k) (k0_off10_inb k)) (ldW arg13 X_arg13 (k0_off11 k) (k0_off11_inb k)) (ldW arg13 X_arg13 (k0_off12 k) (k0_off12_inb k)) (ldW arg13 X_arg13 (k0_off13 k) (k0_off13_inb k)) (ldW arg13 X_arg13 (k0_off14 k) (k0_off14_inb k)) (ldW arg13 X_arg13 (k0_off15 k) (k0_off15_inb k))
    (ldC arg2 X_arg2 (k0_off16 k) (k0_off16_inb k))

/-- The products of column blocks 4 and 5. -/
def S2 (arg2 : Memref sig .tc .vmem S28x128x1024 .fp8e5m2)
    (X_arg2 : BufTy.Contents (Elt F) arg2.view.ty) (arg13 : Memref sig .tc .vmem S4x3x8x896 .f32)
    (X_arg13 : BufTy.Contents (Elt F) arg13.view.ty) (k : Fin k0_t1_loop.trips) : FVec F S192x256 .f32 :=
  sumsV (ldW arg13 X_arg13 (k0_off19 k) (k0_off19_inb k)) (ldW arg13 X_arg13 (k0_off20 k) (k0_off20_inb k)) (ldW arg13 X_arg13 (k0_off21 k) (k0_off21_inb k)) (ldW arg13 X_arg13 (k0_off22 k) (k0_off22_inb k)) (ldW arg13 X_arg13 (k0_off23 k) (k0_off23_inb k)) (ldW arg13 X_arg13 (k0_off24 k) (k0_off24_inb k))
    (ldC arg2 X_arg2 (k0_off25 k) (k0_off25_inb k))

/-- The products of column blocks 6 and 7. -/
def S3 (arg2 : Memref sig .tc .vmem S28x128x1024 .fp8e5m2)
    (X_arg2 : BufTy.Contents (Elt F) arg2.view.ty) (arg13 : Memref sig .tc .vmem S4x3x8x896 .f32)
    (X_arg13 : BufTy.Contents (Elt F) arg13.view.ty) (k : Fin k0_t1_loop.trips) : FVec F S192x256 .f32 :=
  sumsV (ldW arg13 X_arg13 (k0_off28 k) (k0_off28_inb k)) (ldW arg13 X_arg13 (k0_off29 k) (k0_off29_inb k)) (ldW arg13 X_arg13 (k0_off30 k) (k0_off30_inb k)) (ldW arg13 X_arg13 (k0_off31 k) (k0_off31_inb k)) (ldW arg13 X_arg13 (k0_off32 k) (k0_off32_inb k)) (ldW arg13 X_arg13 (k0_off33 k) (k0_off33_inb k))
    (ldC arg2 X_arg2 (k0_off34 k) (k0_off34_inb k))

variable (𝒱 : Variants) (c : Dev nD) (bd : Option 𝒱.V) (i : grid0.Coords)
  (arg2 : Memref sig .tc .vmem S28x128x1024 .fp8e5m2)
  (harg2 : arg2.IsWhole)
  (arg3 : Memref sig .tc .vmem S28x8x128 .f32)
  (harg3 : arg3.IsWhole)
  (arg4 : Memref sig .tc .vmem S128x1024 .f32)
  (harg4 : arg4.IsWhole)
  (arg5 : Memref sig .tc .vmem S128x1024 .f32)
  (harg5 : arg5.IsWhole)
  (arg6 : Memref sig .tc .vmem S128x1024 .f32)
  (harg6 : arg6.IsWhole)
  (arg7 : Memref sig .tc .vmem S128x1024 .f32)
  (harg7 : arg7.IsWhole)
  (arg8 : Memref sig .tc .vmem S128x1024 .f32)
  (harg8 : arg8.IsWhole)
  (arg9 : Memref sig .tc .vmem S128x1024 .f32)
  (harg9 : arg9.IsWhole)
  (arg10 : Memref sig .tc .vmem S128x1024 .f32)
  (harg10 : arg10.IsWhole)
  (arg11 : Memref sig .tc .vmem S128x1024 .fp8e4m3)
  (harg11 : arg11.IsWhole)
  (arg12 : Memref sig .tc .vmem S8x128 .f32)
  (harg12 : arg12.IsWhole)
  (arg13 : Memref sig .tc .vmem S4x3x8x896 .f32)
  (harg13 : arg13.IsWhole)
  (arg14 : Memref sig .tc .vmem S128x128 .f32)
  (harg14 : arg14.IsWhole)
  (X_arg2 : BufTy.Contents (Elt F) arg2.view.ty)
  (X_arg4 : BufTy.Contents (Elt F) arg4.view.ty)
  (X_arg5 : BufTy.Contents (Elt F) arg5.view.ty)
  (X_arg6 : BufTy.Contents (Elt F) arg6.view.ty)
  (X_arg13 : BufTy.Contents (Elt F) arg13.view.ty)
  (k : Fin k0_t1_loop.trips)

/-- The kernel's own record of one trip. -/
abbrev tr :=
  trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg4 X_arg5 X_arg6 X_arg13 k

/-- The pieces of the new weights. -/
theorem m7 : (tr 𝒱 c bd i arg2 harg2 arg3 harg3 arg4 harg4 arg5 harg5 arg6 harg6 arg7 harg7 arg8 harg8 arg9 harg9 arg10 harg10 arg11 harg11 arg12 harg12 arg13 harg13 arg14 harg14 X_arg2 X_arg4 X_arg5 X_arg6 X_arg13 k).1 =
    [⟨Rect.unit (s := S128x1024) (k0_off36 k) S32x128.size (k0_off36_inb k), newV (gV1 (S3 arg2 X_arg2 arg13 X_arg13 k)) (ldA arg4 X_arg4 (k0_off36 k) (k0_off36_inb k)) (ldA arg5 X_arg5 (k0_off36 k) (k0_off36_inb k)) (ldA arg6 X_arg6 (k0_off36 k) (k0_off36_inb k))⟩,
     ⟨Rect.unit (s := S128x1024) (k0_off35 k) S32x128.size (k0_off35_inb k), newV (gV0 (S3 arg2 X_arg2 arg13 X_arg13 k)) (ldA arg4 X_arg4 (k0_off35 k) (k0_off35_inb k)) (ldA arg5 X_arg5 (k0_off35 k) (k0_off35_inb k)) (ldA arg6 X_arg6 (k0_off35 k) (k0_off35_inb k))⟩,
     ⟨Rect.unit (s := S128x1024) (k0_off27 k) S32x128.size (k0_off27_inb k), newV (gV1 (S2 arg2 X_arg2 arg13 X_arg13 k)) (ldA arg4 X_arg4 (k0_off27 k) (k0_off27_inb k)) (ldA arg5 X_arg5 (k0_off27 k) (k0_off27_inb k)) (ldA arg6 X_arg6 (k0_off27 k) (k0_off27_inb k))⟩,
     ⟨Rect.unit (s := S128x1024) (k0_off26 k) S32x128.size (k0_off26_inb k), newV (gV0 (S2 arg2 X_arg2 arg13 X_arg13 k)) (ldA arg4 X_arg4 (k0_off26 k) (k0_off26_inb k)) (ldA arg5 X_arg5 (k0_off26 k) (k0_off26_inb k)) (ldA arg6 X_arg6 (k0_off26 k) (k0_off26_inb k))⟩,
     ⟨Rect.unit (s := S128x1024) (k0_off18 k) S32x128.size (k0_off18_inb k), newV (gV1 (S1 arg2 X_arg2 arg13 X_arg13 k)) (ldA arg4 X_arg4 (k0_off18 k) (k0_off18_inb k)) (ldA arg5 X_arg5 (k0_off18 k) (k0_off18_inb k)) (ldA arg6 X_arg6 (k0_off18 k) (k0_off18_inb k))⟩,
     ⟨Rect.unit (s := S128x1024) (k0_off17 k) S32x128.size (k0_off17_inb k), newV (gV0 (S1 arg2 X_arg2 arg13 X_arg13 k)) (ldA arg4 X_arg4 (k0_off17 k) (k0_off17_inb k)) (ldA arg5 X_arg5 (k0_off17 k) (k0_off17_inb k)) (ldA arg6 X_arg6 (k0_off17 k) (k0_off17_inb k))⟩,
     ⟨Rect.unit (s := S128x1024) (k0_off9 k) S32x128.size (k0_off9_inb k), newV (gV1 (S0 arg2 X_arg2 arg13 X_arg13 k)) (ldA arg4 X_arg4 (k0_off9 k) (k0_off9_inb k)) (ldA arg5 X_arg5 (k0_off9 k) (k0_off9_inb k)) (ldA arg6 X_arg6 (k0_off9 k) (k0_off9_inb k))⟩,
     ⟨Rect.unit (s := S128x1024) (k0_off8 k) S32x128.size (k0_off8_inb k), newV (gV0 (S0 arg2 X_arg2 arg13 X_arg13 k)) (ldA arg4 X_arg4 (k0_off8 k) (k0_off8_inb k)) (ldA arg5 X_arg5 (k0_off8 k) (k0_off8_inb k)) (ldA arg6 X_arg6 (k0_off8 k) (k0_off8_inb k))⟩] := by
  unfold tr trip_k0_t1
  rfl

/-- The pieces of the first moments. -/
theorem m8 : (tr 𝒱 c bd i arg2 harg2 arg3 harg3 arg4 harg4 arg5 harg5 arg6 harg6 arg7 harg7 arg8 harg8 arg9 harg9 arg10 harg10 arg11 harg11 arg12 harg12 arg13 harg13 arg14 harg14 X_arg2 X_arg4 X_arg5 X_arg6 X_arg13 k).2.1 =
    [⟨Rect.unit (s := S128x1024) (k0_off36 k) S32x128.size (k0_off36_inb k), mV (gV1 (S3 arg2 X_arg2 arg13 X_arg13 k)) (ldA arg5 X_arg5 (k0_off36 k) (k0_off36_inb k))⟩,
     ⟨Rect.unit (s := S128x1024) (k0_off35 k) S32x128.size (k0_off35_inb k), mV (gV0 (S3 arg2 X_arg2 arg13 X_arg13 k)) (ldA arg5 X_arg5 (k0_off35 k) (k0_off35_inb k))⟩,
     ⟨Rect.unit (s := S128x1024) (k0_off27 k) S32x128.size (k0_off27_inb k), mV (gV1 (S2 arg2 X_arg2 arg13 X_arg13 k)) (ldA arg5 X_arg5 (k0_off27 k) (k0_off27_inb k))⟩,
     ⟨Rect.unit (s := S128x1024) (k0_off26 k) S32x128.size (k0_off26_inb k), mV (gV0 (S2 arg2 X_arg2 arg13 X_arg13 k)) (ldA arg5 X_arg5 (k0_off26 k) (k0_off26_inb k))⟩,
     ⟨Rect.unit (s := S128x1024) (k0_off18 k) S32x128.size (k0_off18_inb k), mV (gV1 (S1 arg2 X_arg2 arg13 X_arg13 k)) (ldA arg5 X_arg5 (k0_off18 k) (k0_off18_inb k))⟩,
     ⟨Rect.unit (s := S128x1024) (k0_off17 k) S32x128.size (k0_off17_inb k), mV (gV0 (S1 arg2 X_arg2 arg13 X_arg13 k)) (ldA arg5 X_arg5 (k0_off17 k) (k0_off17_inb k))⟩,
     ⟨Rect.unit (s := S128x1024) (k0_off9 k) S32x128.size (k0_off9_inb k), mV (gV1 (S0 arg2 X_arg2 arg13 X_arg13 k)) (ldA arg5 X_arg5 (k0_off9 k) (k0_off9_inb k))⟩,
     ⟨Rect.unit (s := S128x1024) (k0_off8 k) S32x128.size (k0_off8_inb k), mV (gV0 (S0 arg2 X_arg2 arg13 X_arg13 k)) (ldA arg5 X_arg5 (k0_off8 k) (k0_off8_inb k))⟩] := by
  unfold tr trip_k0_t1
  rfl

/-- The pieces of the second moments. -/
theorem m9 : (tr 𝒱 c bd i arg2 harg2 arg3 harg3 arg4 harg4 arg5 harg5 arg6 harg6 arg7 harg7 arg8 harg8 arg9 harg9 arg10 harg10 arg11 harg11 arg12 harg12 arg13 harg13 arg14 harg14 X_arg2 X_arg4 X_arg5 X_arg6 X_arg13 k).2.2.1 =
    [⟨Rect.unit (s := S128x1024) (k0_off36 k) S32x128.size (k0_off36_inb k), vV (gV1 (S3 arg2 X_arg2 arg13 X_arg13 k)) (ldA arg6 X_arg6 (k0_off36 k) (k0_off36_inb k))⟩,
     ⟨Rect.unit (s := S128x1024) (k0_off35 k) S32x128.size (k0_off35_inb k), vV (gV0 (S3 arg2 X_arg2 arg13 X_arg13 k)) (ldA arg6 X_arg6 (k0_off35 k) (k0_off35_inb k))⟩,
     ⟨Rect.unit (s := S128x1024) (k0_off27 k) S32x128.size (k0_off27_inb k), vV (gV1 (S2 arg2 X_arg2 arg13 X_arg13 k)) (ldA arg6 X_arg6 (k0_off27 k) (k0_off27_inb k))⟩,
     ⟨Rect.unit (s := S128x1024) (k0_off26 k) S32x128.size (k0_off26_inb k), vV (gV0 (S2 arg2 X_arg2 arg13 X_arg13 k)) (ldA arg6 X_arg6 (k0_off26 k) (k0_off26_inb k))⟩,
     ⟨Rect.unit (s := S128x1024) (k0_off18 k) S32x128.size (k0_off18_inb k), vV (gV1 (S1 arg2 X_arg2 arg13 X_arg13 k)) (ldA arg6 X_arg6 (k0_off18 k) (k0_off18_inb k))⟩,
     ⟨Rect.unit (s := S128x1024) (k0_off17 k) S32x128.size (k0_off17_inb k), vV (gV0 (S1 arg2 X_arg2 arg13 X_arg13 k)) (ldA arg6 X_arg6 (k0_off17 k) (k0_off17_inb k))⟩,
     ⟨Rect.unit (s := S128x1024) (k0_off9 k) S32x128.size (k0_off9_inb k), vV (gV1 (S0 arg2 X_arg2 arg13 X_arg13 k)) (ldA arg6 X_arg6 (k0_off9 k) (k0_off9_inb k))⟩,
     ⟨Rect.unit (s := S128x1024) (k0_off8 k) S32x128.size (k0_off8_inb k), vV (gV0 (S0 arg2 X_arg2 arg13 X_arg13 k)) (ldA arg6 X_arg6 (k0_off8 k) (k0_off8_inb k))⟩] := by
  unfold tr trip_k0_t1
  rfl

/-- The pieces of the updates. -/
theorem m10 : (tr 𝒱 c bd i arg2 harg2 arg3 harg3 arg4 harg4 arg5 harg5 arg6 harg6 arg7 harg7 arg8 harg8 arg9 harg9 arg10 harg10 arg11 harg11 arg12 harg12 arg13 harg13 arg14 harg14 X_arg2 X_arg4 X_arg5 X_arg6 X_arg13 k).2.2.2.1 =
    [⟨Rect.unit (s := S128x1024) (k0_off36 k) S32x128.size (k0_off36_inb k), updV (gV1 (S3 arg2 X_arg2 arg13 X_arg13 k)) (ldA arg4 X_arg4 (k0_off36 k) (k0_off36_inb k)) (ldA arg5 X_arg5 (k0_off36 k) (k0_off36_inb k)) (ldA arg6 X_arg6 (k0_off36 k) (k0_off36_inb k))⟩,
     ⟨Rect.unit (s := S128x1024) (k0_off35 k) S32x128.size (k0_off35_inb k), updV (gV0 (S3 arg2 X_arg2 arg13 X_arg13 k)) (ldA arg4 X_arg4 (k0_off35 k) (k0_off35_inb k)) (ldA arg5 X_arg5 (k0_off35 k) (k0_off35_inb k)) (ldA arg6 X_arg6 (k0_off35 k) (k0_off35_inb k))⟩,
     ⟨Rect.unit (s := S128x1024) (k0_off27 k) S32x128.size (k0_off27_inb k), updV (gV1 (S2 arg2 X_arg2 arg13 X_arg13 k)) (ldA arg4 X_arg4 (k0_off27 k) (k0_off27_inb k)) (ldA arg5 X_arg5 (k0_off27 k) (k0_off27_inb k)) (ldA arg6 X_arg6 (k0_off27 k) (k0_off27_inb k))⟩,
     ⟨Rect.unit (s := S128x1024) (k0_off26 k) S32x128.size (k0_off26_inb k), updV (gV0 (S2 arg2 X_arg2 arg13 X_arg13 k)) (ldA arg4 X_arg4 (k0_off26 k) (k0_off26_inb k)) (ldA arg5 X_arg5 (k0_off26 k) (k0_off26_inb k)) (ldA arg6 X_arg6 (k0_off26 k) (k0_off26_inb k))⟩,
     ⟨Rect.unit (s := S128x1024) (k0_off18 k) S32x128.size (k0_off18_inb k), updV (gV1 (S1 arg2 X_arg2 arg13 X_arg13 k)) (ldA arg4 X_arg4 (k0_off18 k) (k0_off18_inb k)) (ldA arg5 X_arg5 (k0_off18 k) (k0_off18_inb k)) (ldA arg6 X_arg6 (k0_off18 k) (k0_off18_inb k))⟩,
     ⟨Rect.unit (s := S128x1024) (k0_off17 k) S32x128.size (k0_off17_inb k), updV (gV0 (S1 arg2 X_arg2 arg13 X_arg13 k)) (ldA arg4 X_arg4 (k0_off17 k) (k0_off17_inb k)) (ldA arg5 X_arg5 (k0_off17 k) (k0_off17_inb k)) (ldA arg6 X_arg6 (k0_off17 k) (k0_off17_inb k))⟩,
     ⟨Rect.unit (s := S128x1024) (k0_off9 k) S32x128.size (k0_off9_inb k), updV (gV1 (S0 arg2 X_arg2 arg13 X_arg13 k)) (ldA arg4 X_arg4 (k0_off9 k) (k0_off9_inb k)) (ldA arg5 X_arg5 (k0_off9 k) (k0_off9_inb k)) (ldA arg6 X_arg6 (k0_off9 k) (k0_off9_inb k))⟩,
     ⟨Rect.unit (s := S128x1024) (k0_off8 k) S32x128.size (k0_off8_inb k), updV (gV0 (S0 arg2 X_arg2 arg13 X_arg13 k)) (ldA arg4 X_arg4 (k0_off8 k) (k0_off8_inb k)) (ldA arg5 X_arg5 (k0_off8 k) (k0_off8_inb k)) (ldA arg6 X_arg6 (k0_off8 k) (k0_off8_inb k))⟩] := by
  unfold tr trip_k0_t1
  rfl

/-- The pieces of the fp8 codes. -/
theorem m11 : (tr 𝒱 c bd i arg2 harg2 arg3 harg3 arg4 harg4 arg5 harg5 arg6 harg6 arg7 harg7 arg8 harg8 arg9 harg9 arg10 harg10 arg11 harg11 arg12 harg12 arg13 harg13 arg14 harg14 X_arg2 X_arg4 X_arg5 X_arg6 X_arg13 k).2.2.2.2.1 =
    [⟨Rect.unit (s := S128x1024) (k0_off36 k) S32x128.size (k0_off36_inb k), codesV (newV (gV1 (S3 arg2 X_arg2 arg13 X_arg13 k)) (ldA arg4 X_arg4 (k0_off36 k) (k0_off36_inb k)) (ldA arg5 X_arg5 (k0_off36 k) (k0_off36_inb k)) (ldA arg6 X_arg6 (k0_off36 k) (k0_off36_inb k)))⟩,
     ⟨Rect.unit (s := S128x1024) (k0_off35 k) S32x128.size (k0_off35_inb k), codesV (newV (gV0 (S3 arg2 X_arg2 arg13 X_arg13 k)) (ldA arg4 X_arg4 (k0_off35 k) (k0_off35_inb k)) (ldA arg5 X_arg5 (k0_off35 k) (k0_off35_inb k)) (ldA arg6 X_arg6 (k0_off35 k) (k0_off35_inb k)))⟩,
     ⟨Rect.unit (s := S128x1024) (k0_off27 k) S32x128.size (k0_off27_inb k), codesV (newV (gV1 (S2 arg2 X_arg2 arg13 X_arg13 k)) (ldA arg4 X_arg4 (k0_off27 k) (k0_off27_inb k)) (ldA arg5 X_arg5 (k0_off27 k) (k0_off27_inb k)) (ldA arg6 X_arg6 (k0_off27 k) (k0_off27_inb k)))⟩,
     ⟨Rect.unit (s := S128x1024) (k0_off26 k) S32x128.size (k0_off26_inb k), codesV (newV (gV0 (S2 arg2 X_arg2 arg13 X_arg13 k)) (ldA arg4 X_arg4 (k0_off26 k) (k0_off26_inb k)) (ldA arg5 X_arg5 (k0_off26 k) (k0_off26_inb k)) (ldA arg6 X_arg6 (k0_off26 k) (k0_off26_inb k)))⟩,
     ⟨Rect.unit (s := S128x1024) (k0_off18 k) S32x128.size (k0_off18_inb k), codesV (newV (gV1 (S1 arg2 X_arg2 arg13 X_arg13 k)) (ldA arg4 X_arg4 (k0_off18 k) (k0_off18_inb k)) (ldA arg5 X_arg5 (k0_off18 k) (k0_off18_inb k)) (ldA arg6 X_arg6 (k0_off18 k) (k0_off18_inb k)))⟩,
     ⟨Rect.unit (s := S128x1024) (k0_off17 k) S32x128.size (k0_off17_inb k), codesV (newV (gV0 (S1 arg2 X_arg2 arg13 X_arg13 k)) (ldA arg4 X_arg4 (k0_off17 k) (k0_off17_inb k)) (ldA arg5 X_arg5 (k0_off17 k) (k0_off17_inb k)) (ldA arg6 X_arg6 (k0_off17 k) (k0_off17_inb k)))⟩,
     ⟨Rect.unit (s := S128x1024) (k0_off9 k) S32x128.size (k0_off9_inb k), codesV (newV (gV1 (S0 arg2 X_arg2 arg13 X_arg13 k)) (ldA arg4 X_arg4 (k0_off9 k) (k0_off9_inb k)) (ldA arg5 X_arg5 (k0_off9 k) (k0_off9_inb k)) (ldA arg6 X_arg6 (k0_off9 k) (k0_off9_inb k)))⟩,
     ⟨Rect.unit (s := S128x1024) (k0_off8 k) S32x128.size (k0_off8_inb k), codesV (newV (gV0 (S0 arg2 X_arg2 arg13 X_arg13 k)) (ldA arg4 X_arg4 (k0_off8 k) (k0_off8_inb k)) (ldA arg5 X_arg5 (k0_off8 k) (k0_off8_inb k)) (ldA arg6 X_arg6 (k0_off8 k) (k0_off8_inb k)))⟩] := by
  unfold tr trip_k0_t1
  rfl

/-- The piece of the scales. -/
theorem m14 : (tr 𝒱 c bd i arg2 harg2 arg3 harg3 arg4 harg4 arg5 harg5 arg6 harg6 arg7 harg7 arg8 harg8 arg9 harg9 arg10 harg10 arg11 harg11 arg12 harg12 arg13 harg13 arg14 harg14 X_arg2 X_arg4 X_arg5 X_arg6 X_arg13 k).2.2.2.2.2.1 =
    [⟨Rect.unit (s := S128x128) (k0_off37 k) S32x128.size (k0_off37_inb k), shapeCast S32x128 (psV 7#32 (psV 6#32 (psV 5#32 (psV 4#32 (psV 3#32 (psV 2#32 (psV 1#32 (psV 0#32 (broadcast S32x128 (Scalar.ofBits .f32 0x00000000#32))
      (newV (gV0 (S0 arg2 X_arg2 arg13 X_arg13 k)) (ldA arg4 X_arg4 (k0_off8 k) (k0_off8_inb k)) (ldA arg5 X_arg5 (k0_off8 k) (k0_off8_inb k)) (ldA arg6 X_arg6 (k0_off8 k) (k0_off8_inb k))))
      (newV (gV1 (S0 arg2 X_arg2 arg13 X_arg13 k)) (ldA arg4 X_arg4 (k0_off9 k) (k0_off9_inb k)) (ldA arg5 X_arg5 (k0_off9 k) (k0_off9_inb k)) (ldA arg6 X_arg6 (k0_off9 k) (k0_off9_inb k))))
      (newV (gV0 (S1 arg2 X_arg2 arg13 X_arg13 k)) (ldA arg4 X_arg4 (k0_off17 k) (k0_off17_inb k)) (ldA arg5 X_arg5 (k0_off17 k) (k0_off17_inb k)) (ldA arg6 X_arg6 (k0_off17 k) (k0_off17_inb k))))
      (newV (gV1 (S1 arg2 X_arg2 arg13 X_arg13 k)) (ldA arg4 X_arg4 (k0_off18 k) (k0_off18_inb k)) (ldA arg5 X_arg5 (k0_off18 k) (k0_off18_inb k)) (ldA arg6 X_arg6 (k0_off18 k) (k0_off18_inb k))))
      (newV (gV0 (S2 arg2 X_arg2 arg13 X_arg13 k)) (ldA arg4 X_arg4 (k0_off26 k) (k0_off26_inb k)) (ldA arg5 X_arg5 (k0_off26 k) (k0_off26_inb k)) (ldA arg6 X_arg6 (k0_off26 k) (k0_off26_inb k))))
      (newV (gV1 (S2 arg2 X_arg2 arg13 X_arg13 k)) (ldA arg4 X_arg4 (k0_off27 k) (k0_off27_inb k)) (ldA arg5 X_arg5 (k0_off27 k) (k0_off27_inb k)) (ldA arg6 X_arg6 (k0_off27 k) (k0_off27_inb k))))
      (newV (gV0 (S3 arg2 X_arg2 arg13 X_arg13 k)) (ldA arg4 X_arg4 (k0_off35 k) (k0_off35_inb k)) (ldA arg5 X_arg5 (k0_off35 k) (k0_off35_inb k)) (ldA arg6 X_arg6 (k0_off35 k) (k0_off35_inb k))))
      (newV (gV1 (S3 arg2 X_arg2 arg13 X_arg13 k)) (ldA arg4 X_arg4 (k0_off36 k) (k0_off36_inb k)) (ldA arg5 X_arg5 (k0_off36 k) (k0_off36_inb k)) (ldA arg6 X_arg6 (k0_off36 k) (k0_off36_inb k)))) shapeCasts_S32x128_S32x128⟩] := by
  unfold tr trip_k0_t1
  rfl

end Cert.KernelIdeal.Trip

end
-- ==== Proof.Block.lean ====
/- What one grid point's block of each result holds, as functions of the point's blocks of the operands, and that the
   parts a trip of the loop computes are parts of them. -/
module

public import proofs.«01_k».proof.Proof.Point
public import proofs.«01_k».proof.Proof.Regroup
public import proofs.«01_k».proof.Proof.Trip

@[expose] public section

set_option maxRecDepth 100000
set_option maxHeartbeats 4000000

noncomputable section

namespace Cert.KernelIdeal.Block

open Idealize.ShloMosaic Idealize.ShloMosaic.TcCoe Cert.KernelIdeal Cert.KernelIdeal.Gen Cert.KernelIdeal.Facts
open Idealize.ShloMosaic.Pointwise
open Cert.KernelIdeal.Row Cert.KernelIdeal.Trip Cert.KernelIdeal.Regroup

section Blocks

variable (x0 : Vec Ideal S28x128x1024 .fp8e5m2) (x1 : Vec Ideal S28x8x128 .f32) (x2 x3 x4 : Vec Ideal S128x1024 .f32)

/-- The mean over the ranks of code times scale, at a row and lane of the block. -/
def grad (R : Fin 128) (L : Fin 1024) : EReal :=
  (∑ q : Fin 28, x1 (ix3 q ⟨L.val / 128, by omega⟩ R) * x0 (ix3 q R L)) * Named.named (F := Ideal) (φ := .f32) κ "inv_ranks" 0x3D124925#32

/-- The new first moment. -/
def mB (R : Fin 128) (L : Fin 1024) : EReal := Spec.m1 (grad x0 x1 R L) (x3 (ix2 R L))

/-- The new second moment. -/
def vB (R : Fin 128) (L : Fin 1024) : EReal := Spec.v1 (grad x0 x1 R L) (x4 (ix2 R L))

/-- The update. -/
def updB (R : Fin 128) (L : Fin 1024) : EReal :=
  Spec.upd (mB x0 x1 x3 R L * Named.named (F := Ideal) (φ := .f32) κ "inv_bc1" 0x3F91B733#32)
    (vB x0 x1 x4 R L * Named.named (F := Ideal) (φ := .f32) κ "inv_bc2" 0x3FC78729#32) (x2 (ix2 R L))

/-- The new weight. -/
def newB (R : Fin 128) (L : Fin 1024) : EReal := x2 (ix2 R L) - updB x0 x1 x2 x3 x4 R L

/-- The largest magnitude over 448 of the 128 new weights of a row and column block. -/
def levelB (R : Fin 128) (b : Fin 8) : EReal := Spec.level fun l => newB x0 x1 x2 x3 x4 R ⟨128 * b.val + l.val, by omega⟩

/-- The fp8 code. -/
def codeB (R : Fin 128) (L : Fin 1024) : EReal :=
  Spec.code (newB x0 x1 x2 x3 x4 R L)
    (Ideal.ofBits .f32 (2130706432#32 - Quant.sbits (levelB x0 x1 x2 x3 x4 R ⟨L.val / 128, by omega⟩)))

/-- The scale, in the lane of its column block. -/
def scaleB (R : Fin 128) (l : Fin 128) : EReal :=
  if h : l.val < 8 then Ideal.ofBits .f32 (Quant.sbits (levelB x0 x1 x2 x3 x4 R ⟨l.val, h⟩)) else Ideal.ofBits .f32 0x00000000#32

end Blocks

/-- A load of a part reads the part. -/
theorem ldA_apply (arg : Memref sig .tc .vmem S128x1024 .f32) (X : BufTy.Contents (Elt Ideal) arg.view.ty)
    (x : Vec Ideal S128x1024 .f32) (hX : arg.view.read (Elt Ideal) X = x) (off : Fin 2 → ℕ)
    (h : ∀ a, off a + S32x128.size a ≤ S128x1024.size a) (k b : ℕ) (hk : k < 4) (hb : b < 8)
    (ho : ∀ a, off a = (![32 * k, 128 * b] : Fin 2 → ℕ) a) (r : Fin 32) (l : Fin 128) :
    ldA arg X off h (ix2 r l) = x (ix2 ⟨32 * k + r.val, by omega⟩ ⟨128 * b + l.val, by omega⟩) := by
  subst hX
  refine View.ld_unit_apply_of _ _ _ _ _ _ fun a => ?_
  rw [ho a]
  fin_cases a <;> rfl

theorem ldC_apply (arg : Memref sig .tc .vmem S28x128x1024 .fp8e5m2) (X : BufTy.Contents (Elt Ideal) arg.view.ty)
    (x : Vec Ideal S28x128x1024 .fp8e5m2) (hX : arg.view.read (Elt Ideal) X = x) (off : Fin 3 → ℕ)
    (h : ∀ a, off a + S28x32x256.size a ≤ S28x128x1024.size a) (k q : ℕ) (hk : k < 4) (hq : q < 4)
    (ho : ∀ a, off a = (![0, 32 * k, 256 * q] : Fin 3 → ℕ) a) (n : Fin 28) (r : Fin 32) (t : Fin 256) :
    ldC arg X off h (ix3 n r t) = x (ix3 n ⟨32 * k + r.val, by omega⟩ ⟨256 * q + t.val, by omega⟩) := by
  subst hX
  refine View.ld_unit_apply_of _ _ _ _ _ _ fun a => ?_
  rw [ho a]
  fin_cases a
  · exact (Nat.zero_add _).symm
  · rfl
  · rfl

/-- A load of a row of the split scales: the scale from the first piece, zero from the others. -/
theorem ldW_apply (arg : Memref sig .tc .vmem S4x3x8x896 .f32) (X : BufTy.Contents (Elt Ideal) arg.view.ty)
    (x1 : Vec Ideal S28x8x128 .f32) (hX : arg.view.read (Elt Ideal) X = W x1) (off : Fin 4 → ℕ)
    (h : ∀ a, off a + S1x1x1x896.size a ≤ S4x3x8x896.size a) (k s b : ℕ) (hk : k < 4) (hs : s < 3) (hb : b < 8)
    (ho : ∀ a, off a = (![k, s, b, 0] : Fin 4 → ℕ) a) (n : Fin 28) (r : Fin 32) :
    ldW arg X off h (ix4 0 0 0 ⟨32 * n.val + r.val, by omega⟩)
      = if s = 0 then x1 (ix3 n ⟨b, hb⟩ ⟨32 * k + r.val, by omega⟩) else 0 := by
  have e : ldW arg X off h (ix4 0 0 0 ⟨32 * n.val + r.val, by omega⟩)
      = W x1 (ix4 ⟨k, hk⟩ ⟨s, hs⟩ ⟨b, hb⟩ ⟨32 * n.val + r.val, by omega⟩) := by
    rw [← hX]
    refine View.ld_unit_apply_of _ _ _ _ _ _ fun a => ?_
    rw [ho a]
    fin_cases a
    · rfl
    · rfl
    · rfl
    · exact (Nat.zero_add _).symm
  rw [e]
  show (if s = 0 then x1 (ix3 ⟨(32 * n.val + r.val) / 32, _⟩ ⟨b, _⟩ ⟨32 * k + (32 * n.val + r.val) % 32, _⟩) else 0) = _
  congr 3
  · exact Fin.ext (by show (32 * n.val + r.val) / 32 = n.val; omega)
  · exact Fin.ext (by show 32 * k + (32 * n.val + r.val) % 32 = 32 * k + r.val; omega)

/-- The products of one pair of column blocks. -/
theorem sums_apply (arg2 : Memref sig .tc .vmem S28x128x1024 .fp8e5m2) (X2 : BufTy.Contents (Elt Ideal) arg2.view.ty)
    (x0 : Vec Ideal S28x128x1024 .fp8e5m2) (h2 : arg2.view.read (Elt Ideal) X2 = x0)
    (arg13 : Memref sig .tc .vmem S4x3x8x896 .f32) (X13 : BufTy.Contents (Elt Ideal) arg13.view.ty)
    (x1 : Vec Ideal S28x8x128 .f32) (h13 : arg13.view.read (Elt Ideal) X13 = W x1)
    (off : Fin 6 → Fin 4 → ℕ) (h : ∀ n a, off n a + S1x1x1x896.size a ≤ S4x3x8x896.size a)
    (offc : Fin 3 → ℕ) (hc : ∀ a, offc a + S28x32x256.size a ≤ S28x128x1024.size a) (k q : ℕ) (hk : k < 4) (hq : q < 4)
    (ho : ∀ n a, off n a = (![k, n.val / 2, 2 * q + n.val % 2, 0] : Fin 4 → ℕ) a)
    (hoc : ∀ a, offc a = (![0, 32 * k, 256 * q] : Fin 3 → ℕ) a)
    (n : Fin 6) (r : Fin 32) (R : Fin 192) (hR : R.val = 32 * n.val + r.val) (t : Fin 256) :
    sumsV (ldW arg13 X13 (off 0) (h 0)) (ldW arg13 X13 (off 1) (h 1)) (ldW arg13 X13 (off 2) (h 2))
      (ldW arg13 X13 (off 3) (h 3)) (ldW arg13 X13 (off 4) (h 4)) (ldW arg13 X13 (off 5) (h 5))
      (ldC arg2 X2 offc hc) (ix2 R t)
      = if n.val / 2 = 0 then ∑ p : Fin 28, x1 (ix3 p ⟨2 * q + n.val % 2, by omega⟩ ⟨32 * k + r.val, by omega⟩)
          * x0 (ix3 p ⟨32 * k + r.val, by omega⟩ ⟨256 * q + t.val, by omega⟩) else 0 := by
  refine (sumsV_apply (fun n => ldW arg13 X13 (off n) (h n)) _ n r R hR t).trans ?_
  have e : ∀ p : Fin 28, _ = _ := fun p =>
    ldW_apply arg13 X13 x1 h13 (off n) (h n) k (n.val / 2) (2 * q + n.val % 2) hk (by omega) (by omega) (ho n) p r
  simp only [e, ldC_apply arg2 X2 x0 h2 offc hc k q hk hq hoc]
  by_cases hn : n.val / 2 = 0
  · simp only [hn, if_true]
  · simp only [hn, if_false, zero_mul, Finset.sum_const_zero]

section Grad

variable (arg2 : Memref sig .tc .vmem S28x128x1024 .fp8e5m2) (X2 : BufTy.Contents (Elt Ideal) arg2.view.ty)
    (x0 : Vec Ideal S28x128x1024 .fp8e5m2) (h2 : arg2.view.read (Elt Ideal) X2 = x0)
    (arg13 : Memref sig .tc .vmem S4x3x8x896 .f32) (X13 : BufTy.Contents (Elt Ideal) arg13.view.ty)
    (x1 : Vec Ideal S28x8x128 .f32) (h13 : arg13.view.read (Elt Ideal) X13 = W x1)
    (off : Fin 6 → Fin 4 → ℕ) (h : ∀ n a, off n a + S1x1x1x896.size a ≤ S4x3x8x896.size a)
    (offc : Fin 3 → ℕ) (hc : ∀ a, offc a + S28x32x256.size a ≤ S28x128x1024.size a) (k q : ℕ) (hk : k < 4) (hq : q < 4)
    (ho : ∀ n a, off n a = (![k, n.val / 2, 2 * q + n.val % 2, 0] : Fin 4 → ℕ) a)
    (hoc : ∀ a, offc a = (![0, 32 * k, 256 * q] : Fin 3 → ℕ) a)

include h2 h13 hk hq ho hoc

/-- The gradient of the pair's first block. -/
theorem grad_even (r : Fin 32) (l : Fin 128) :
    gV0 (sumsV (ldW arg13 X13 (off 0) (h 0)) (ldW arg13 X13 (off 1) (h 1)) (ldW arg13 X13 (off 2) (h 2))
      (ldW arg13 X13 (off 3) (h 3)) (ldW arg13 X13 (off 4) (h 4)) (ldW arg13 X13 (off 5) (h 5))
      (ldC arg2 X2 offc hc)) (ix2 r l)
      = grad x0 x1 ⟨32 * k + r.val, by omega⟩ ⟨128 * (2 * q) + l.val, by omega⟩ := by
  rw [gV0_apply,
    sums_apply arg2 X2 x0 h2 arg13 X13 x1 h13 off h offc hc k q hk hq ho hoc 4 r ⟨128 + r.val, by omega⟩ rfl,
    sums_apply arg2 X2 x0 h2 arg13 X13 x1 h13 off h offc hc k q hk hq ho hoc 2 r ⟨64 + r.val, by omega⟩ rfl,
    sums_apply arg2 X2 x0 h2 arg13 X13 x1 h13 off h offc hc k q hk hq ho hoc 0 r ⟨r.val, by omega⟩ (by simp)]
  show (((0 : EReal) + 0) + _) * _ = _
  rw [zero_add, zero_add]
  unfold grad
  congr 1
  refine Finset.sum_congr rfl fun p _ => ?_
  congr 3
  · exact Fin.ext (by show 2 * q + 0 = (128 * (2 * q) + l.val) / 128; omega)
  · exact Fin.ext (by show 256 * q + l.val = 128 * (2 * q) + l.val; omega)

/-- The gradient of the pair's second block. -/
theorem grad_odd (r : Fin 32) (l : Fin 128) :
    gV1 (sumsV (ldW arg13 X13 (off 0) (h 0)) (ldW arg13 X13 (off 1) (h 1)) (ldW arg13 X13 (off 2) (h 2))
      (ldW arg13 X13 (off 3) (h 3)) (ldW arg13 X13 (off 4) (h 4)) (ldW arg13 X13 (off 5) (h 5))
      (ldC arg2 X2 offc hc)) (ix2 r l)
      = grad x0 x1 ⟨32 * k + r.val, by omega⟩ ⟨128 * (2 * q + 1) + l.val, by omega⟩ := by
  rw [gV1_apply,
    sums_apply arg2 X2 x0 h2 arg13 X13 x1 h13 off h offc hc k q hk hq ho hoc 5 r ⟨160 + r.val, by omega⟩ rfl,
    sums_apply arg2 X2 x0 h2 arg13 X13 x1 h13 off h offc hc k q hk hq ho hoc 3 r ⟨96 + r.val, by omega⟩ rfl,
    sums_apply arg2 X2 x0 h2 arg13 X13 x1 h13 off h offc hc k q hk hq ho hoc 1 r ⟨32 + r.val, by omega⟩ rfl]
  show (((0 : EReal) + 0) + _) * _ = _
  rw [zero_add, zero_add]
  unfold grad
  congr 1
  refine Finset.sum_congr rfl fun p _ => ?_
  congr 3
  · exact Fin.ext (by show 2 * q + 1 = (128 * (2 * q + 1) + l.val) / 128; omega)
  · exact Fin.ext (by show 256 * q + (128 + l.val) = 128 * (2 * q + 1) + l.val; omega)

end Grad

end Cert.KernelIdeal.Block

end
-- ==== Proof.Whole.lean ====
/- The results as functions of the arguments, entry by entry, on the extended reals; and that the functions of a grid point's
   blocks are these, at the block's place in the arrays. -/
module

public import proofs.«01_k».proof.Proof.Block

@[expose] public section

set_option maxRecDepth 100000
set_option maxHeartbeats 4000000

noncomputable section

namespace Cert.Whole

open Idealize.ShloMosaic

/-- The bias of the first moment at this step. -/
def bc1 : EReal := ((87842334540943071199 / 100000000000000000000 : ℝ) : EReal)
/-- The bias of the second moment at this step. -/
def bc2 : EReal := ((67267626542454041806644399 / 104857600000000000000000000 : ℝ) : EReal)
/-- The natural logarithm of two. -/
def ln2 : EReal := ((Real.log 2 : ℝ) : EReal)

section Arrays

variable (C : Fin 28 → Fin 256 → Fin 14336 → EReal) (s : Fin 28 → Fin 256 → Fin 112 → EReal)
  (p m v : Fin 256 → Fin 14336 → EReal)

/-- The mean over the ranks of code times scale. -/
def grad (R : Fin 256) (L : Fin 14336) : EReal :=
  Ideal.div (∑ q : Fin 28, C q R L * s q R ⟨L.val / 128, by omega⟩) (Ideal.ofBits .f32 0x41E00000#32)

/-- The new first moment. -/
def mom (R : Fin 256) (L : Fin 14336) : EReal := Spec.m1 (grad C s R L) (m R L)

/-- The new second moment. -/
def vel (R : Fin 256) (L : Fin 14336) : EReal := Spec.v1 (grad C s R L) (v R L)

/-- The update. -/
def upd (R : Fin 256) (L : Fin 14336) : EReal :=
  Spec.upd (Ideal.div (mom C s m R L) bc1) (Ideal.div (vel C s v R L) bc2) (p R L)

/-- The new weight. -/
def new (R : Fin 256) (L : Fin 14336) : EReal := p R L - upd C s p m v R L

/-- The largest magnitude over 448 of the 128 new weights of a row and column block. -/
def level (R : Fin 256) (b : Fin 112) : EReal := Spec.level fun l => new C s p m v R ⟨128 * b.val + l.val, by omega⟩

/-- The exponent of the scale of a row and column block. -/
def expo (R : Fin 256) (b : Fin 112) : EReal := Quant.refExp ln2 (level C s p m v R b)

/-- The fp8 code. -/
def code (R : Fin 256) (L : Fin 14336) : EReal :=
  Spec.code (new C s p m v R L)
    (Ideal.exp2 (Ideal.ofBits .f32 0x00000000#32 - expo C s p m v R ⟨L.val / 128, by omega⟩))

/-- The scale. -/
def scale (R : Fin 256) (b : Fin 112) : EReal := Ideal.exp2 (expo C s p m v R b)

end Arrays

/-! ## Multiplying by a constant's reciprocal is dividing by the constant -/

theorem ofBits_28 : Ideal.ofBits .f32 0x41E00000#32 = ((28 : ℝ) : EReal) := by
  simp [Ideal.ofBits, Ideal.ieee, FTy.bits]
  rw [← EReal.coe_mul]
  norm_num

theorem div_coe (x : EReal) (r : ℝ) (hr : r ≠ 0) : Ideal.div x ((r : ℝ) : EReal) = x * ((r⁻¹ : ℝ) : EReal) := by
  have : ((r : ℝ) : EReal) ≠ 0 := by exact_mod_cast hr
  unfold Ideal.div
  rw [if_neg this, EReal.coe_inv]

theorem mul_inv_ranks (x : EReal) :
    x * Named.named (F := Ideal) (φ := .f32) KernelIdeal.κ "inv_ranks" 0x3D124925#32 = Ideal.div x (Ideal.ofBits .f32 0x41E00000#32) := by
  rw [ofBits_28, div_coe _ _ (by norm_num), IdealRules.named_const.ideal_named_scalar _ _ _ _ rfl]
  norm_num

theorem mul_inv_bc1 (x : EReal) :
    x * Named.named (F := Ideal) (φ := .f32) KernelIdeal.κ "inv_bc1" 0x3F91B733#32 = Ideal.div x bc1 := by
  rw [bc1, div_coe _ _ (by norm_num), IdealRules.named_const.ideal_named_scalar _ _ _ _ rfl, inv_div]

theorem mul_inv_bc2 (x : EReal) :
    x * Named.named (F := Ideal) (φ := .f32) KernelIdeal.κ "inv_bc2" 0x3FC78729#32 = Ideal.div x bc2 := by
  rw [bc2, div_coe _ _ (by norm_num), IdealRules.named_const.ideal_named_scalar _ _ _ _ rfl, inv_div]

/-! ## The blocks of a grid point -/

section Blocks

open Cert.KernelIdeal Cert.KernelIdeal.Gen Cert.KernelIdeal.Block Idealize.ShloMosaic.Pointwise

/-- Row `R` of row block `a`. -/
def row (a : Fin 2) (R : Fin 128) : Fin 256 := ⟨128 * a.val + R.val, by omega⟩
/-- Lane `L` of column block `d`. -/
def col (d : Fin 14) (L : Fin 1024) : Fin 14336 := ⟨1024 * d.val + L.val, by omega⟩
/-- Scale column `b` of column block `d`. -/
def blk (d : Fin 14) (b : Fin 8) : Fin 112 := ⟨8 * d.val + b.val, by omega⟩

variable {C : Fin 28 → Fin 256 → Fin 14336 → EReal} {s : Fin 28 → Fin 256 → Fin 112 → EReal}
  {p m v : Fin 256 → Fin 14336 → EReal}
  {x0 : Vec Ideal S28x128x1024 .fp8e5m2} {x1 : Vec Ideal S28x8x128 .f32} {x2 x3 x4 : Vec Ideal S128x1024 .f32}
  {a : Fin 2} {d : Fin 14}

/-- The operands' blocks at the grid point of row block `a` and column block `d`. -/
structure At (C : Fin 28 → Fin 256 → Fin 14336 → EReal) (s : Fin 28 → Fin 256 → Fin 112 → EReal)
    (p m v : Fin 256 → Fin 14336 → EReal)
    (x0 : Vec Ideal S28x128x1024 .fp8e5m2) (x1 : Vec Ideal S28x8x128 .f32) (x2 x3 x4 : Vec Ideal S128x1024 .f32)
    (a : Fin 2) (d : Fin 14) : Prop where
  codes : ∀ q R L, x0 (ix3 q R L) = C q (row a R) (col d L)
  scales : ∀ q b R, x1 (ix3 q b R) = s q (row a R) (blk d b)
  par : ∀ R L, x2 (ix2 R L) = p (row a R) (col d L)
  fst : ∀ R L, x3 (ix2 R L) = m (row a R) (col d L)
  snd : ∀ R L, x4 (ix2 R L) = v (row a R) (col d L)

variable (h : At C s p m v x0 x1 x2 x3 x4 a d)
include h

theorem grad_eq (R : Fin 128) (L : Fin 1024) : Block.grad x0 x1 R L = grad C s (row a R) (col d L) := by
  rw [Block.grad, grad, mul_inv_ranks]
  refine congrArg (Ideal.div · _) (Finset.sum_congr rfl fun q _ => ?_)
  rw [h.codes, h.scales, mul_comm]
  refine congrArg (C q (row a R) (col d L) * ·) (congrArg (s q (row a R)) (Fin.ext ?_))
  simp only [blk, col]
  omega

theorem mom_eq (R : Fin 128) (L : Fin 1024) : mB x0 x1 x3 R L = mom C s m (row a R) (col d L) := by
  rw [mB, mom, grad_eq h, h.fst]

theorem vel_eq (R : Fin 128) (L : Fin 1024) : vB x0 x1 x4 R L = vel C s v (row a R) (col d L) := by
  rw [vB, vel, grad_eq h, h.snd]

theorem upd_eq (R : Fin 128) (L : Fin 1024) : updB x0 x1 x2 x3 x4 R L = upd C s p m v (row a R) (col d L) := by
  rw [updB, upd, mul_inv_bc1, mul_inv_bc2, mom_eq h, vel_eq h, h.par]

theorem new_eq (R : Fin 128) (L : Fin 1024) : newB x0 x1 x2 x3 x4 R L = new C s p m v (row a R) (col d L) := by
  rw [newB, new, upd_eq h, h.par]

theorem level_eq (R : Fin 128) (b : Fin 8) : levelB x0 x1 x2 x3 x4 R b = level C s p m v (row a R) (blk d b) := by
  rw [levelB, level]
  refine congrArg Spec.level (funext fun l => ?_)
  rw [new_eq h]
  refine congrArg (new C s p m v (row a R)) (Fin.ext ?_)
  simp only [blk, col]
  omega

theorem code_eq (R : Fin 128) (L : Fin 1024) : codeB x0 x1 x2 x3 x4 R L = code C s p m v (row a R) (col d L) := by
  rw [codeB, code, new_eq h, level_eq h, (Quant.scale_eq _).2, expo, ln2]
  refine congrArg (fun b => Spec.code _ (Ideal.exp2 (_ - Quant.refExp _ (level C s p m v (row a R) b)))) (Fin.ext ?_)
  simp only [blk, col]
  omega

theorem scale_eq (R : Fin 128) (b : Fin 8) :
    scaleB x0 x1 x2 x3 x4 R ⟨b.val, by omega⟩ = scale C s p m v (row a R) (blk d b) := by
  rw [scaleB, dif_pos b.isLt, level_eq h, (Quant.scale_eq _).1, scale, expo, ln2]

end Blocks

end Cert.Whole

end
-- ==== Proof.Pieces.lean ====
/- That each piece a trip of the loop writes agrees with the block functions, so that what the loop leaves in a block
   is the block function. -/
module

public import proofs.«01_k».proof.Proof.Block

@[expose] public section

set_option maxRecDepth 100000
set_option maxHeartbeats 4000000

noncomputable section

namespace Cert.KernelIdeal.Pieces

open Idealize.ShloMosaic Idealize.ShloMosaic.TcCoe Cert.KernelIdeal Cert.KernelIdeal.Gen Cert.KernelIdeal.Facts
open Idealize.ShloMosaic.Pointwise
open Cert.KernelIdeal.Row Cert.KernelIdeal.Trip Cert.KernelIdeal.Regroup Cert.KernelIdeal.Block

/-- A piece of a block agrees with a function of row and lane. -/
def Agrees {e : EltTy} (G : Fin 128 → Fin 1024 → Elt Ideal e) (p : View.Piece (Elt Ideal) S128x1024 e) : Prop :=
  ∀ x : p.1.shape.Idx, p.2 x = G (p.1.emb x 0) (p.1.emb x 1)

theorem agrees_unit {e : EltTy} (G : Fin 128 → Fin 1024 → Elt Ideal e) (off : Fin 2 → ℕ)
    (h : ∀ a, off a + S32x128.size a ≤ S128x1024.size a) (k b : ℕ) (hk : k < 4) (hb : b < 8)
    (ho : ∀ a, off a = (![32 * k, 128 * b] : Fin 2 → ℕ) a) (w : S32x128.Idx → Elt Ideal e)
    (hw : ∀ (r : Fin 32) (l : Fin 128), w (ix2 r l) = G ⟨32 * k + r.val, by omega⟩ ⟨128 * b + l.val, by omega⟩) :
    Agrees G ⟨Rect.unit (s := S128x1024) off S32x128.size h, w⟩ := by
  intro x
  obtain ⟨r, l, rfl⟩ : ∃ (r : Fin 32) (l : Fin 128), x = ix2 r l := ⟨x 0, x 1, eq_ix2 x⟩
  refine (hw r l).trans ?_
  congr 1
  · refine Fin.ext ?_
    show 32 * k + r.val = off 0 + 1 * r.val
    rw [ho 0]; show 32 * k + r.val = 32 * k + 1 * r.val; omega
  · refine Fin.ext ?_
    show 128 * b + l.val = off 1 + 1 * l.val
    rw [ho 1]; show 128 * b + l.val = 128 * b + 1 * l.val; omega

section At

variable (x0 : Vec Ideal S28x128x1024 .fp8e5m2) (x1 : Vec Ideal S28x8x128 .f32) (x2 x3 x4 : Vec Ideal S128x1024 .f32)

/-- Gradient, weight and moments of the thirty-two rows from `32 k` and the column block `b`. -/
structure At (k b : ℕ) (hk : k < 4) (hb : b < 8) (g p m v : FVec Ideal S32x128 .f32) : Prop where
  hg : ∀ (r : Fin 32) (l : Fin 128), g (ix2 r l) = grad x0 x1 ⟨32 * k + r.val, by omega⟩ ⟨128 * b + l.val, by omega⟩
  hp : ∀ (r : Fin 32) (l : Fin 128), p (ix2 r l) = x2 (ix2 ⟨32 * k + r.val, by omega⟩ ⟨128 * b + l.val, by omega⟩)
  hm : ∀ (r : Fin 32) (l : Fin 128), m (ix2 r l) = x3 (ix2 ⟨32 * k + r.val, by omega⟩ ⟨128 * b + l.val, by omega⟩)
  hv : ∀ (r : Fin 32) (l : Fin 128), v (ix2 r l) = x4 (ix2 ⟨32 * k + r.val, by omega⟩ ⟨128 * b + l.val, by omega⟩)

variable {x0 x1 x2 x3 x4} {k b : ℕ} {hk : k < 4} {hb : b < 8} {g p m v : FVec Ideal S32x128 .f32}

theorem At.mom (h : At x0 x1 x2 x3 x4 k b hk hb g p m v) (r : Fin 32) (l : Fin 128) :
    mV g m (ix2 r l) = mB x0 x1 x3 ⟨32 * k + r.val, by omega⟩ ⟨128 * b + l.val, by omega⟩ := by
  rw [mV_apply, h.hg, h.hm]; rfl

theorem At.vel (h : At x0 x1 x2 x3 x4 k b hk hb g p m v) (r : Fin 32) (l : Fin 128) :
    vV g v (ix2 r l) = vB x0 x1 x4 ⟨32 * k + r.val, by omega⟩ ⟨128 * b + l.val, by omega⟩ := by
  rw [vV_apply, h.hg, h.hv]; rfl

theorem At.upd (h : At x0 x1 x2 x3 x4 k b hk hb g p m v) (r : Fin 32) (l : Fin 128) :
    updV g p m v (ix2 r l) = updB x0 x1 x2 x3 x4 ⟨32 * k + r.val, by omega⟩ ⟨128 * b + l.val, by omega⟩ := by
  rw [updV_apply, h.mom, h.vel, h.hp]; rfl

theorem At.new (h : At x0 x1 x2 x3 x4 k b hk hb g p m v) (r : Fin 32) (l : Fin 128) :
    newV g p m v (ix2 r l) = newB x0 x1 x2 x3 x4 ⟨32 * k + r.val, by omega⟩ ⟨128 * b + l.val, by omega⟩ := by
  rw [newV_apply, h.upd, h.hp]; rfl

theorem At.level (h : At x0 x1 x2 x3 x4 k b hk hb g p m v) (r : Fin 32) :
    (Spec.level fun l => newV g p m v (ix2 r l)) = levelB x0 x1 x2 x3 x4 ⟨32 * k + r.val, by omega⟩ ⟨b, hb⟩ := by
  simp only [h.new]; rfl

theorem At.code (h : At x0 x1 x2 x3 x4 k b hk hb g p m v) (r : Fin 32) (l : Fin 128) :
    codesV (newV g p m v) (ix2 r l)
      = codeB x0 x1 x2 x3 x4 ⟨32 * k + r.val, by omega⟩ ⟨128 * b + l.val, by omega⟩ := by
  rw [codesV_apply, h.level, h.new]
  unfold codeB
  congr 5
  exact Fin.ext (by show b = (128 * b + l.val) / 128; omega)

end At

/-- Where the parts of a trip lie. -/
theorem offA : ∀ (k : Fin k0_t1_loop.trips) (a : Fin 2),
    k0_off8 k a = (![32 * k.val, 128 * 0] : Fin 2 → ℕ) a
    ∧ k0_off9 k a = (![32 * k.val, 128 * 1] : Fin 2 → ℕ) a
    ∧ k0_off17 k a = (![32 * k.val, 128 * 2] : Fin 2 → ℕ) a
    ∧ k0_off18 k a = (![32 * k.val, 128 * 3] : Fin 2 → ℕ) a
    ∧ k0_off26 k a = (![32 * k.val, 128 * 4] : Fin 2 → ℕ) a
    ∧ k0_off27 k a = (![32 * k.val, 128 * 5] : Fin 2 → ℕ) a
    ∧ k0_off35 k a = (![32 * k.val, 128 * 6] : Fin 2 → ℕ) a
    ∧ k0_off36 k a = (![32 * k.val, 128 * 7] : Fin 2 → ℕ) a := by decide +kernel

theorem offC : ∀ (k : Fin k0_t1_loop.trips) (a : Fin 3),
    k0_off7 k a = (![0, 32 * k.val, 256 * 0] : Fin 3 → ℕ) a
    ∧ k0_off16 k a = (![0, 32 * k.val, 256 * 1] : Fin 3 → ℕ) a
    ∧ k0_off25 k a = (![0, 32 * k.val, 256 * 2] : Fin 3 → ℕ) a
    ∧ k0_off34 k a = (![0, 32 * k.val, 256 * 3] : Fin 3 → ℕ) a := by decide +kernel

theorem off14 : ∀ (k : Fin k0_t1_loop.trips) (a : Fin 2),
    k0_off37 k a = (![32 * k.val, 0] : Fin 2 → ℕ) a := by decide +kernel

/-- The rows of the split scales for a pair of column blocks. -/
def offW (q : Fin 4) (k : Fin k0_t1_loop.trips) : Fin 6 → Fin 4 → ℕ :=
  match q with
  | 0 => ![k0_off1 k, k0_off2 k, k0_off3 k, k0_off4 k, k0_off5 k, k0_off6 k]
  | 1 => ![k0_off10 k, k0_off11 k, k0_off12 k, k0_off13 k, k0_off14 k, k0_off15 k]
  | 2 => ![k0_off19 k, k0_off20 k, k0_off21 k, k0_off22 k, k0_off23 k, k0_off24 k]
  | 3 => ![k0_off28 k, k0_off29 k, k0_off30 k, k0_off31 k, k0_off32 k, k0_off33 k]

theorem offW_inb : ∀ (q : Fin 4) (k : Fin k0_t1_loop.trips) (n : Fin 6) (a : Fin 4),
    offW q k n a + S1x1x1x896.size a ≤ S4x3x8x896.size a := by decide +kernel

theorem offW_eq : ∀ (q : Fin 4) (k : Fin k0_t1_loop.trips) (n : Fin 6) (a : Fin 4),
    offW q k n a = (![k.val, n.val / 2, 2 * q.val + n.val % 2, 0] : Fin 4 → ℕ) a := by decide +kernel

theorem lt4 (k : Fin k0_t1_loop.trips) : k.val < 4 := lt_of_lt_of_le k.isLt k0_t1_abs.2.1

theorem keep_apply (v : FVec Ideal S32x128 .f32) (r : Fin 32) (l : Fin 128) :
    shapeCast S32x128 v shapeCasts_S32x128_S32x128 (ix2 r l) = v (ix2 r l) := by
  pointwise

section Trips

variable (x0 : Vec Ideal S28x128x1024 .fp8e5m2) (x1 : Vec Ideal S28x8x128 .f32) (x2 x3 x4 : Vec Ideal S128x1024 .f32)

variable (𝒱 : Variants) (c : Dev nD) (bd : Option 𝒱.V) (i : grid0.Coords)
  (arg2 : Memref sig .tc .vmem S28x128x1024 .fp8e5m2) (harg2 : arg2.IsWhole)
  (arg3 : Memref sig .tc .vmem S28x8x128 .f32) (harg3 : arg3.IsWhole)
  (arg4 : Memref sig .tc .vmem S128x1024 .f32) (harg4 : arg4.IsWhole)
  (arg5 : Memref sig .tc .vmem S128x1024 .f32) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S128x1024 .f32) (harg10 : arg10.IsWhole)
  (arg11 : Memref sig .tc .vmem S128x1024 .fp8e4m3) (harg11 : arg11.IsWhole)
  (arg12 : Memref sig .tc .vmem S8x128 .f32) (harg12 : arg12.IsWhole)
  (arg13 : Memref sig .tc .vmem S4x3x8x896 .f32) (harg13 : arg13.IsWhole)
  (arg14 : Memref sig .tc .vmem S128x128 .f32) (harg14 : arg14.IsWhole)
  (X2 : BufTy.Contents (Elt Ideal) arg2.view.ty) (X4 : BufTy.Contents (Elt Ideal) arg4.view.ty)
  (X5 : BufTy.Contents (Elt Ideal) arg5.view.ty) (X6 : BufTy.Contents (Elt Ideal) arg6.view.ty)
  (X13 : BufTy.Contents (Elt Ideal) arg13.view.ty)
  (h2 : arg2.view.read (Elt Ideal) X2 = x0) (h4 : arg4.view.read (Elt Ideal) X4 = x2)
  (h5 : arg5.view.read (Elt Ideal) X5 = x3) (h6 : arg6.view.read (Elt Ideal) X6 = x4)
  (h13 : arg13.view.read (Elt Ideal) X13 = W x1)
  (k : Fin k0_t1_loop.trips)

section One

include h2 h4 h5 h6 h13

theorem at0 : At x0 x1 x2 x3 x4 k.val 0 (lt4 k) (by omega) (gV0 (S0 arg2 X2 arg13 X13 k))
    (ldA arg4 X4 (k0_off8 k) (k0_off8_inb k)) (ldA arg5 X5 (k0_off8 k) (k0_off8_inb k))
    (ldA arg6 X6 (k0_off8 k) (k0_off8_inb k)) where
  hg := grad_even arg2 X2 x0 h2 arg13 X13 x1 h13 (offW 0 k) (offW_inb 0 k) (k0_off7 k) (k0_off7_inb k) k.val 0
    (lt4 k) (by omega) (offW_eq 0 k) (fun a => (offC k a).1)
  hp := ldA_apply arg4 X4 x2 h4 _ _ k.val 0 (lt4 k) (by omega) fun a => (offA k a).1
  hm := ldA_apply arg5 X5 x3 h5 _ _ k.val 0 (lt4 k) (by omega) fun a => (offA k a).1
  hv := ldA_apply arg6 X6 x4 h6 _ _ k.val 0 (lt4 k) (by omega) fun a => (offA k a).1

theorem at1 : At x0 x1 x2 x3 x4 k.val 1 (lt4 k) (by omega) (gV1 (S0 arg2 X2 arg13 X13 k))
    (ldA arg4 X4 (k0_off9 k) (k0_off9_inb k)) (ldA arg5 X5 (k0_off9 k) (k0_off9_inb k))
    (ldA arg6 X6 (k0_off9 k) (k0_off9_inb k)) where
  hg := grad_odd arg2 X2 x0 h2 arg13 X13 x1 h13 (offW 0 k) (offW_inb 0 k) (k0_off7 k) (k0_off7_inb k) k.val 0
    (lt4 k) (by omega) (offW_eq 0 k) (fun a => (offC k a).1)
  hp := ldA_apply arg4 X4 x2 h4 _ _ k.val 1 (lt4 k) (by omega) fun a => (offA k a).2.1
  hm := ldA_apply arg5 X5 x3 h5 _ _ k.val 1 (lt4 k) (by omega) fun a => (offA k a).2.1
  hv := ldA_apply arg6 X6 x4 h6 _ _ k.val 1 (lt4 k) (by omega) fun a => (offA k a).2.1

theorem at2 : At x0 x1 x2 x3 x4 k.val 2 (lt4 k) (by omega) (gV0 (S1 arg2 X2 arg13 X13 k))
    (ldA arg4 X4 (k0_off17 k) (k0_off17_inb k)) (ldA arg5 X5 (k0_off17 k) (k0_off17_inb k))
    (ldA arg6 X6 (k0_off17 k) (k0_off17_inb k)) where
  hg := grad_even arg2 X2 x0 h2 arg13 X13 x1 h13 (offW 1 k) (offW_inb 1 k) (k0_off16 k) (k0_off16_inb k) k.val 1
    (lt4 k) (by omega) (offW_eq 1 k) (fun a => (offC k a).2.1)
  hp := ldA_apply arg4 X4 x2 h4 _ _ k.val 2 (lt4 k) (by omega) fun a => (offA k a).2.2.1
  hm := ldA_apply arg5 X5 x3 h5 _ _ k.val 2 (lt4 k) (by omega) fun a => (offA k a).2.2.1
  hv := ldA_apply arg6 X6 x4 h6 _ _ k.val 2 (lt4 k) (by omega) fun a => (offA k a).2.2.1

theorem at3 : At x0 x1 x2 x3 x4 k.val 3 (lt4 k) (by omega) (gV1 (S1 arg2 X2 arg13 X13 k))
    (ldA arg4 X4 (k0_off18 k) (k0_off18_inb k)) (ldA arg5 X5 (k0_off18 k) (k0_off18_inb k))
    (ldA arg6 X6 (k0_off18 k) (k0_off18_inb k)) where
  hg := grad_odd arg2 X2 x0 h2 arg13 X13 x1 h13 (offW 1 k) (offW_inb 1 k) (k0_off16 k) (k0_off16_inb k) k.val 1
    (lt4 k) (by omega) (offW_eq 1 k) (fun a => (offC k a).2.1)
  hp := ldA_apply arg4 X4 x2 h4 _ _ k.val 3 (lt4 k) (by omega) fun a => (offA k a).2.2.2.1
  hm := ldA_apply arg5 X5 x3 h5 _ _ k.val 3 (lt4 k) (by omega) fun a => (offA k a).2.2.2.1
  hv := ldA_apply arg6 X6 x4 h6 _ _ k.val 3 (lt4 k) (by omega) fun a => (offA k a).2.2.2.1

theorem at4 : At x0 x1 x2 x3 x4 k.val 4 (lt4 k) (by omega) (gV0 (S2 arg2 X2 arg13 X13 k))
    (ldA arg4 X4 (k0_off26 k) (k0_off26_inb k)) (ldA arg5 X5 (k0_off26 k) (k0_off26_inb k))
    (ldA arg6 X6 (k0_off26 k) (k0_off26_inb k)) where
  hg := grad_even arg2 X2 x0 h2 arg13 X13 x1 h13 (offW 2 k) (offW_inb 2 k) (k0_off25 k) (k0_off25_inb k) k.val 2
    (lt4 k) (by omega) (offW_eq 2 k) (fun a => (offC k a).2.2.1)
  hp := ldA_apply arg4 X4 x2 h4 _ _ k.val 4 (lt4 k) (by omega) fun a => (offA k a).2.2.2.2.1
  hm := ldA_apply arg5 X5 x3 h5 _ _ k.val 4 (lt4 k) (by omega) fun a => (offA k a).2.2.2.2.1
  hv := ldA_apply arg6 X6 x4 h6 _ _ k.val 4 (lt4 k) (by omega) fun a => (offA k a).2.2.2.2.1

theorem at5 : At x0 x1 x2 x3 x4 k.val 5 (lt4 k) (by omega) (gV1 (S2 arg2 X2 arg13 X13 k))
    (ldA arg4 X4 (k0_off27 k) (k0_off27_inb k)) (ldA arg5 X5 (k0_off27 k) (k0_off27_inb k))
    (ldA arg6 X6 (k0_off27 k) (k0_off27_inb k)) where
  hg := grad_odd arg2 X2 x0 h2 arg13 X13 x1 h13 (offW 2 k) (offW_inb 2 k) (k0_off25 k) (k0_off25_inb k) k.val 2
    (lt4 k) (by omega) (offW_eq 2 k) (fun a => (offC k a).2.2.1)
  hp := ldA_apply arg4 X4 x2 h4 _ _ k.val 5 (lt4 k) (by omega) fun a => (offA k a).2.2.2.2.2.1
  hm := ldA_apply arg5 X5 x3 h5 _ _ k.val 5 (lt4 k) (by omega) fun a => (offA k a).2.2.2.2.2.1
  hv := ldA_apply arg6 X6 x4 h6 _ _ k.val 5 (lt4 k) (by omega) fun a => (offA k a).2.2.2.2.2.1

theorem at6 : At x0 x1 x2 x3 x4 k.val 6 (lt4 k) (by omega) (gV0 (S3 arg2 X2 arg13 X13 k))
    (ldA arg4 X4 (k0_off35 k) (k0_off35_inb k)) (ldA arg5 X5 (k0_off35 k) (k0_off35_inb k))
    (ldA arg6 X6 (k0_off35 k) (k0_off35_inb k)) where
  hg := grad_even arg2 X2 x0 h2 arg13 X13 x1 h13 (offW 3 k) (offW_inb 3 k) (k0_off34 k) (k0_off34_inb k) k.val 3
    (lt4 k) (by omega) (offW_eq 3 k) (fun a => (offC k a).2.2.2)
  hp := ldA_apply arg4 X4 x2 h4 _ _ k.val 6 (lt4 k) (by omega) fun a => (offA k a).2.2.2.2.2.2.1
  hm := ldA_apply arg5 X5 x3 h5 _ _ k.val 6 (lt4 k) (by omega) fun a => (offA k a).2.2.2.2.2.2.1
  hv := ldA_apply arg6 X6 x4 h6 _ _ k.val 6 (lt4 k) (by omega) fun a => (offA k a).2.2.2.2.2.2.1

theorem at7 : At x0 x1 x2 x3 x4 k.val 7 (lt4 k) (by omega) (gV1 (S3 arg2 X2 arg13 X13 k))
    (ldA arg4 X4 (k0_off36 k) (k0_off36_inb k)) (ldA arg5 X5 (k0_off36 k) (k0_off36_inb k))
    (ldA arg6 X6 (k0_off36 k) (k0_off36_inb k)) where
  hg := grad_odd arg2 X2 x0 h2 arg13 X13 x1 h13 (offW 3 k) (offW_inb 3 k) (k0_off34 k) (k0_off34_inb k) k.val 3
    (lt4 k) (by omega) (offW_eq 3 k) (fun a => (offC k a).2.2.2)
  hp := ldA_apply arg4 X4 x2 h4 _ _ k.val 7 (lt4 k) (by omega) fun a => (offA k a).2.2.2.2.2.2.2
  hm := ldA_apply arg5 X5 x3 h5 _ _ k.val 7 (lt4 k) (by omega) fun a => (offA k a).2.2.2.2.2.2.2
  hv := ldA_apply arg6 X6 x4 h6 _ _ k.val 7 (lt4 k) (by omega) fun a => (offA k a).2.2.2.2.2.2.2

end One

include h2 h4 h5 h6 h13

/-- A trip's pieces of the new weights. -/
theorem trip7 : ∀ p ∈ (tr (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 k).1,
    Agrees (newB x0 x1 x2 x3 x4) p := by
  rw [m7]
  simp only [List.forall_mem_cons, List.not_mem_nil, false_imp_iff, implies_true, and_true]
  refine ⟨?_, ?_, ?_, ?_, ?_, ?_, ?_, ?_⟩
  · exact agrees_unit _ _ _ k.val 7 (lt4 k) (by omega) (fun a => (offA k a).2.2.2.2.2.2.2) _ (at7 x0 x1 x2 x3 x4 arg2 arg4 arg5 arg6 arg13 X2 X4 X5 X6 X13 h2 h4 h5 h6 h13 k).new
  · exact agrees_unit _ _ _ k.val 6 (lt4 k) (by omega) (fun a => (offA k a).2.2.2.2.2.2.1) _ (at6 x0 x1 x2 x3 x4 arg2 arg4 arg5 arg6 arg13 X2 X4 X5 X6 X13 h2 h4 h5 h6 h13 k).new
  · exact agrees_unit _ _ _ k.val 5 (lt4 k) (by omega) (fun a => (offA k a).2.2.2.2.2.1) _ (at5 x0 x1 x2 x3 x4 arg2 arg4 arg5 arg6 arg13 X2 X4 X5 X6 X13 h2 h4 h5 h6 h13 k).new
  · exact agrees_unit _ _ _ k.val 4 (lt4 k) (by omega) (fun a => (offA k a).2.2.2.2.1) _ (at4 x0 x1 x2 x3 x4 arg2 arg4 arg5 arg6 arg13 X2 X4 X5 X6 X13 h2 h4 h5 h6 h13 k).new
  · exact agrees_unit _ _ _ k.val 3 (lt4 k) (by omega) (fun a => (offA k a).2.2.2.1) _ (at3 x0 x1 x2 x3 x4 arg2 arg4 arg5 arg6 arg13 X2 X4 X5 X6 X13 h2 h4 h5 h6 h13 k).new
  · exact agrees_unit _ _ _ k.val 2 (lt4 k) (by omega) (fun a => (offA k a).2.2.1) _ (at2 x0 x1 x2 x3 x4 arg2 arg4 arg5 arg6 arg13 X2 X4 X5 X6 X13 h2 h4 h5 h6 h13 k).new
  · exact agrees_unit _ _ _ k.val 1 (lt4 k) (by omega) (fun a => (offA k a).2.1) _ (at1 x0 x1 x2 x3 x4 arg2 arg4 arg5 arg6 arg13 X2 X4 X5 X6 X13 h2 h4 h5 h6 h13 k).new
  · exact agrees_unit _ _ _ k.val 0 (lt4 k) (by omega) (fun a => (offA k a).1) _ (at0 x0 x1 x2 x3 x4 arg2 arg4 arg5 arg6 arg13 X2 X4 X5 X6 X13 h2 h4 h5 h6 h13 k).new

/-- A trip's pieces of the first moments. -/
theorem trip8 : ∀ p ∈ (tr (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 k).2.1,
    Agrees (mB x0 x1 x3) p := by
  rw [m8]
  simp only [List.forall_mem_cons, List.not_mem_nil, false_imp_iff, implies_true, and_true]
  refine ⟨?_, ?_, ?_, ?_, ?_, ?_, ?_, ?_⟩
  · exact agrees_unit _ _ _ k.val 7 (lt4 k) (by omega) (fun a => (offA k a).2.2.2.2.2.2.2) _ (at7 x0 x1 x2 x3 x4 arg2 arg4 arg5 arg6 arg13 X2 X4 X5 X6 X13 h2 h4 h5 h6 h13 k).mom
  · exact agrees_unit _ _ _ k.val 6 (lt4 k) (by omega) (fun a => (offA k a).2.2.2.2.2.2.1) _ (at6 x0 x1 x2 x3 x4 arg2 arg4 arg5 arg6 arg13 X2 X4 X5 X6 X13 h2 h4 h5 h6 h13 k).mom
  · exact agrees_unit _ _ _ k.val 5 (lt4 k) (by omega) (fun a => (offA k a).2.2.2.2.2.1) _ (at5 x0 x1 x2 x3 x4 arg2 arg4 arg5 arg6 arg13 X2 X4 X5 X6 X13 h2 h4 h5 h6 h13 k).mom
  · exact agrees_unit _ _ _ k.val 4 (lt4 k) (by omega) (fun a => (offA k a).2.2.2.2.1) _ (at4 x0 x1 x2 x3 x4 arg2 arg4 arg5 arg6 arg13 X2 X4 X5 X6 X13 h2 h4 h5 h6 h13 k).mom
  · exact agrees_unit _ _ _ k.val 3 (lt4 k) (by omega) (fun a => (offA k a).2.2.2.1) _ (at3 x0 x1 x2 x3 x4 arg2 arg4 arg5 arg6 arg13 X2 X4 X5 X6 X13 h2 h4 h5 h6 h13 k).mom
  · exact agrees_unit _ _ _ k.val 2 (lt4 k) (by omega) (fun a => (offA k a).2.2.1) _ (at2 x0 x1 x2 x3 x4 arg2 arg4 arg5 arg6 arg13 X2 X4 X5 X6 X13 h2 h4 h5 h6 h13 k).mom
  · exact agrees_unit _ _ _ k.val 1 (lt4 k) (by omega) (fun a => (offA k a).2.1) _ (at1 x0 x1 x2 x3 x4 arg2 arg4 arg5 arg6 arg13 X2 X4 X5 X6 X13 h2 h4 h5 h6 h13 k).mom
  · exact agrees_unit _ _ _ k.val 0 (lt4 k) (by omega) (fun a => (offA k a).1) _ (at0 x0 x1 x2 x3 x4 arg2 arg4 arg5 arg6 arg13 X2 X4 X5 X6 X13 h2 h4 h5 h6 h13 k).mom

/-- A trip's pieces of the second moments. -/
theorem trip9 : ∀ p ∈ (tr (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 k).2.2.1,
    Agrees (vB x0 x1 x4) p := by
  rw [m9]
  simp only [List.forall_mem_cons, List.not_mem_nil, false_imp_iff, implies_true, and_true]
  refine ⟨?_, ?_, ?_, ?_, ?_, ?_, ?_, ?_⟩
  · exact agrees_unit _ _ _ k.val 7 (lt4 k) (by omega) (fun a => (offA k a).2.2.2.2.2.2.2) _ (at7 x0 x1 x2 x3 x4 arg2 arg4 arg5 arg6 arg13 X2 X4 X5 X6 X13 h2 h4 h5 h6 h13 k).vel
  · exact agrees_unit _ _ _ k.val 6 (lt4 k) (by omega) (fun a => (offA k a).2.2.2.2.2.2.1) _ (at6 x0 x1 x2 x3 x4 arg2 arg4 arg5 arg6 arg13 X2 X4 X5 X6 X13 h2 h4 h5 h6 h13 k).vel
  · exact agrees_unit _ _ _ k.val 5 (lt4 k) (by omega) (fun a => (offA k a).2.2.2.2.2.1) _ (at5 x0 x1 x2 x3 x4 arg2 arg4 arg5 arg6 arg13 X2 X4 X5 X6 X13 h2 h4 h5 h6 h13 k).vel
  · exact agrees_unit _ _ _ k.val 4 (lt4 k) (by omega) (fun a => (offA k a).2.2.2.2.1) _ (at4 x0 x1 x2 x3 x4 arg2 arg4 arg5 arg6 arg13 X2 X4 X5 X6 X13 h2 h4 h5 h6 h13 k).vel
  · exact agrees_unit _ _ _ k.val 3 (lt4 k) (by omega) (fun a => (offA k a).2.2.2.1) _ (at3 x0 x1 x2 x3 x4 arg2 arg4 arg5 arg6 arg13 X2 X4 X5 X6 X13 h2 h4 h5 h6 h13 k).vel
  · exact agrees_unit _ _ _ k.val 2 (lt4 k) (by omega) (fun a => (offA k a).2.2.1) _ (at2 x0 x1 x2 x3 x4 arg2 arg4 arg5 arg6 arg13 X2 X4 X5 X6 X13 h2 h4 h5 h6 h13 k).vel
  · exact agrees_unit _ _ _ k.val 1 (lt4 k) (by omega) (fun a => (offA k a).2.1) _ (at1 x0 x1 x2 x3 x4 arg2 arg4 arg5 arg6 arg13 X2 X4 X5 X6 X13 h2 h4 h5 h6 h13 k).vel
  · exact agrees_unit _ _ _ k.val 0 (lt4 k) (by omega) (fun a => (offA k a).1) _ (at0 x0 x1 x2 x3 x4 arg2 arg4 arg5 arg6 arg13 X2 X4 X5 X6 X13 h2 h4 h5 h6 h13 k).vel

/-- A trip's pieces of the updates. -/
theorem trip10 : ∀ p ∈ (tr (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 k).2.2.2.1,
    Agrees (updB x0 x1 x2 x3 x4) p := by
  rw [m10]
  simp only [List.forall_mem_cons, List.not_mem_nil, false_imp_iff, implies_true, and_true]
  refine ⟨?_, ?_, ?_, ?_, ?_, ?_, ?_, ?_⟩
  · exact agrees_unit _ _ _ k.val 7 (lt4 k) (by omega) (fun a => (offA k a).2.2.2.2.2.2.2) _ (at7 x0 x1 x2 x3 x4 arg2 arg4 arg5 arg6 arg13 X2 X4 X5 X6 X13 h2 h4 h5 h6 h13 k).upd
  · exact agrees_unit _ _ _ k.val 6 (lt4 k) (by omega) (fun a => (offA k a).2.2.2.2.2.2.1) _ (at6 x0 x1 x2 x3 x4 arg2 arg4 arg5 arg6 arg13 X2 X4 X5 X6 X13 h2 h4 h5 h6 h13 k).upd
  · exact agrees_unit _ _ _ k.val 5 (lt4 k) (by omega) (fun a => (offA k a).2.2.2.2.2.1) _ (at5 x0 x1 x2 x3 x4 arg2 arg4 arg5 arg6 arg13 X2 X4 X5 X6 X13 h2 h4 h5 h6 h13 k).upd
  · exact agrees_unit _ _ _ k.val 4 (lt4 k) (by omega) (fun a => (offA k a).2.2.2.2.1) _ (at4 x0 x1 x2 x3 x4 arg2 arg4 arg5 arg6 arg13 X2 X4 X5 X6 X13 h2 h4 h5 h6 h13 k).upd
  · exact agrees_unit _ _ _ k.val 3 (lt4 k) (by omega) (fun a => (offA k a).2.2.2.1) _ (at3 x0 x1 x2 x3 x4 arg2 arg4 arg5 arg6 arg13 X2 X4 X5 X6 X13 h2 h4 h5 h6 h13 k).upd
  · exact agrees_unit _ _ _ k.val 2 (lt4 k) (by omega) (fun a => (offA k a).2.2.1) _ (at2 x0 x1 x2 x3 x4 arg2 arg4 arg5 arg6 arg13 X2 X4 X5 X6 X13 h2 h4 h5 h6 h13 k).upd
  · exact agrees_unit _ _ _ k.val 1 (lt4 k) (by omega) (fun a => (offA k a).2.1) _ (at1 x0 x1 x2 x3 x4 arg2 arg4 arg5 arg6 arg13 X2 X4 X5 X6 X13 h2 h4 h5 h6 h13 k).upd
  · exact agrees_unit _ _ _ k.val 0 (lt4 k) (by omega) (fun a => (offA k a).1) _ (at0 x0 x1 x2 x3 x4 arg2 arg4 arg5 arg6 arg13 X2 X4 X5 X6 X13 h2 h4 h5 h6 h13 k).upd

/-- A trip's pieces of the fp8 codes. -/
theorem trip11 : ∀ p ∈ (tr (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 k).2.2.2.2.1,
    Agrees (codeB x0 x1 x2 x3 x4) p := by
  rw [m11]
  simp only [List.forall_mem_cons, List.not_mem_nil, false_imp_iff, implies_true, and_true]
  refine ⟨?_, ?_, ?_, ?_, ?_, ?_, ?_, ?_⟩
  · exact agrees_unit _ _ _ k.val 7 (lt4 k) (by omega) (fun a => (offA k a).2.2.2.2.2.2.2) _ (at7 x0 x1 x2 x3 x4 arg2 arg4 arg5 arg6 arg13 X2 X4 X5 X6 X13 h2 h4 h5 h6 h13 k).code
  · exact agrees_unit _ _ _ k.val 6 (lt4 k) (by omega) (fun a => (offA k a).2.2.2.2.2.2.1) _ (at6 x0 x1 x2 x3 x4 arg2 arg4 arg5 arg6 arg13 X2 X4 X5 X6 X13 h2 h4 h5 h6 h13 k).code
  · exact agrees_unit _ _ _ k.val 5 (lt4 k) (by omega) (fun a => (offA k a).2.2.2.2.2.1) _ (at5 x0 x1 x2 x3 x4 arg2 arg4 arg5 arg6 arg13 X2 X4 X5 X6 X13 h2 h4 h5 h6 h13 k).code
  · exact agrees_unit _ _ _ k.val 4 (lt4 k) (by omega) (fun a => (offA k a).2.2.2.2.1) _ (at4 x0 x1 x2 x3 x4 arg2 arg4 arg5 arg6 arg13 X2 X4 X5 X6 X13 h2 h4 h5 h6 h13 k).code
  · exact agrees_unit _ _ _ k.val 3 (lt4 k) (by omega) (fun a => (offA k a).2.2.2.1) _ (at3 x0 x1 x2 x3 x4 arg2 arg4 arg5 arg6 arg13 X2 X4 X5 X6 X13 h2 h4 h5 h6 h13 k).code
  · exact agrees_unit _ _ _ k.val 2 (lt4 k) (by omega) (fun a => (offA k a).2.2.1) _ (at2 x0 x1 x2 x3 x4 arg2 arg4 arg5 arg6 arg13 X2 X4 X5 X6 X13 h2 h4 h5 h6 h13 k).code
  · exact agrees_unit _ _ _ k.val 1 (lt4 k) (by omega) (fun a => (offA k a).2.1) _ (at1 x0 x1 x2 x3 x4 arg2 arg4 arg5 arg6 arg13 X2 X4 X5 X6 X13 h2 h4 h5 h6 h13 k).code
  · exact agrees_unit _ _ _ k.val 0 (lt4 k) (by omega) (fun a => (offA k a).1) _ (at0 x0 x1 x2 x3 x4 arg2 arg4 arg5 arg6 arg13 X2 X4 X5 X6 X13 h2 h4 h5 h6 h13 k).code

/-- A trip's piece of the scales. -/
theorem trip14 : ∀ p ∈ (tr (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 k).2.2.2.2.2.1,
    ∀ x : p.1.shape.Idx, p.2 x = scaleB x0 x1 x2 x3 x4 (p.1.emb x 0) (p.1.emb x 1) := by
  rw [m14]
  simp only [List.forall_mem_cons, List.not_mem_nil, false_imp_iff, implies_true, and_true]
  intro x
  obtain ⟨r, l, rfl⟩ : ∃ (r : Fin 32) (l : Fin 128), x = ix2 r l := ⟨x 0, x 1, eq_ix2 x⟩
  have e0 : (Rect.unit (s := S128x128) (k0_off37 k) S32x128.size (k0_off37_inb k)).emb (ix2 r l) 0
      = (⟨32 * k.val + r.val, by have := lt4 k; omega⟩ : Fin 128) := by
    refine Fin.ext ?_
    show k0_off37 k 0 + 1 * r.val = 32 * k.val + r.val
    rw [off14 k 0]; show 32 * k.val + 1 * r.val = _; omega
  have e1 : (Rect.unit (s := S128x128) (k0_off37 k) S32x128.size (k0_off37_inb k)).emb (ix2 r l) 1 = l := by
    refine Fin.ext ?_
    show k0_off37 k 1 + 1 * l.val = l.val
    rw [off14 k 1]; show 0 + 1 * l.val = _; omega
  refine (keep_apply _ r l).trans ?_
  refine Eq.trans ?_ (congrArg₂ (scaleB x0 x1 x2 x3 x4) e0 e1).symm
  rw [psV_apply 7 (by omega), (at7 x0 x1 x2 x3 x4 arg2 arg4 arg5 arg6 arg13 X2 X4 X5 X6 X13 h2 h4 h5 h6 h13 k).level]
  rw [psV_apply 6 (by omega), (at6 x0 x1 x2 x3 x4 arg2 arg4 arg5 arg6 arg13 X2 X4 X5 X6 X13 h2 h4 h5 h6 h13 k).level]
  rw [psV_apply 5 (by omega), (at5 x0 x1 x2 x3 x4 arg2 arg4 arg5 arg6 arg13 X2 X4 X5 X6 X13 h2 h4 h5 h6 h13 k).level]
  rw [psV_apply 4 (by omega), (at4 x0 x1 x2 x3 x4 arg2 arg4 arg5 arg6 arg13 X2 X4 X5 X6 X13 h2 h4 h5 h6 h13 k).level]
  rw [psV_apply 3 (by omega), (at3 x0 x1 x2 x3 x4 arg2 arg4 arg5 arg6 arg13 X2 X4 X5 X6 X13 h2 h4 h5 h6 h13 k).level]
  rw [psV_apply 2 (by omega), (at2 x0 x1 x2 x3 x4 arg2 arg4 arg5 arg6 arg13 X2 X4 X5 X6 X13 h2 h4 h5 h6 h13 k).level]
  rw [psV_apply 1 (by omega), (at1 x0 x1 x2 x3 x4 arg2 arg4 arg5 arg6 arg13 X2 X4 X5 X6 X13 h2 h4 h5 h6 h13 k).level]
  rw [psV_apply 0 (by omega), (at0 x0 x1 x2 x3 x4 arg2 arg4 arg5 arg6 arg13 X2 X4 X5 X6 X13 h2 h4 h5 h6 h13 k).level]
  unfold scaleB
  obtain ⟨l, hl⟩ := l
  by_cases h8 : l < 8
  · rw [dif_pos h8]
    interval_cases l <;> rfl
  · rw [dif_neg h8]
    simp only [show l ≠ 7 by omega, show l ≠ 6 by omega, show l ≠ 5 by omega, show l ≠ 4 by omega, show l ≠ 3 by omega,
      show l ≠ 2 by omega, show l ≠ 1 by omega, show l ≠ 0 by omega, if_false]
    rfl

end Trips

end Cert.KernelIdeal.Pieces

end
-- ==== Proof.Run.lean ====
/- What a grid point leaves in each block of the results: the block functions of its blocks of the operands. -/
module

public import proofs.«01_k».proof.Proof.Pieces

@[expose] public section

set_option maxRecDepth 100000
set_option maxHeartbeats 4000000

noncomputable section

namespace Cert.KernelIdeal.Run

open Idealize.ShloMosaic Idealize.ShloMosaic.TcCoe Idealize.ShloMosaic.Tactic
open Cert.KernelIdeal Cert.KernelIdeal.Gen Cert.KernelIdeal.Facts
open Idealize.ShloMosaic.Pointwise
open Cert.KernelIdeal.Regroup Cert.KernelIdeal.Block Cert.KernelIdeal.Pieces

section Loop

variable (x0 : Vec Ideal S28x128x1024 .fp8e5m2) (x1 : Vec Ideal S28x8x128 .f32) (x2 x3 x4 : Vec Ideal S128x1024 .f32)

variable (𝒱 : Variants) (c : Dev nD) (bd : Option 𝒱.V) (i : grid0.Coords)
  (arg2 : Memref sig .tc .vmem S28x128x1024 .fp8e5m2) (harg2 : arg2.IsWhole)
  (arg3 : Memref sig .tc .vmem S28x8x128 .f32) (harg3 : arg3.IsWhole)
  (arg4 : Memref sig .tc .vmem S128x1024 .f32) (harg4 : arg4.IsWhole)
  (arg5 : Memref sig .tc .vmem S128x1024 .f32) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S128x1024 .f32) (harg10 : arg10.IsWhole)
  (arg11 : Memref sig .tc .vmem S128x1024 .fp8e4m3) (harg11 : arg11.IsWhole)
  (arg12 : Memref sig .tc .vmem S8x128 .f32) (harg12 : arg12.IsWhole)
  (arg13 : Memref sig .tc .vmem S4x3x8x896 .f32) (harg13 : arg13.IsWhole)
  (arg14 : Memref sig .tc .vmem S128x128 .f32) (harg14 : arg14.IsWhole)
  (X2 : BufTy.Contents (Elt Ideal) arg2.view.ty) (X4 : BufTy.Contents (Elt Ideal) arg4.view.ty)
  (X5 : BufTy.Contents (Elt Ideal) arg5.view.ty) (X6 : BufTy.Contents (Elt Ideal) arg6.view.ty)
  (X13 : BufTy.Contents (Elt Ideal) arg13.view.ty)
  (h2 : arg2.view.read (Elt Ideal) X2 = x0) (h4 : arg4.view.read (Elt Ideal) X4 = x2)
  (h5 : arg5.view.read (Elt Ideal) X5 = x3) (h6 : arg6.view.read (Elt Ideal) X6 = x4)
  (h13 : arg13.view.read (Elt Ideal) X13 = W x1)

theorem forall_append {α : Type*} {P : α → Prop} {l l' : List α} (h : ∀ p ∈ l, P p) (h' : ∀ p ∈ l', P p) :
    ∀ p ∈ l ++ l', P p := fun p hp => (List.mem_append.mp hp).elim (h p) (h' p)

include h2 h4 h5 h6 h13

/-- Every piece that the loop writes agrees with its block function. -/
theorem pieces_agree (n : ℕ) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 n).1, Agrees (newB x0 x1 x2 x3 x4) p)
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 n).2.1, Agrees (mB x0 x1 x3) p)
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 n).2.2.1, Agrees (vB x0 x1 x4) p)
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 n).2.2.2.1, Agrees (updB x0 x1 x2 x3 x4) p)
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 n).2.2.2.2.1, Agrees (codeB x0 x1 x2 x3 x4) p)
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 n).2.2.2.2.2, ∀ x : p.1.shape.Idx, p.2 x = scaleB x0 x1 x2 x3 x4 (p.1.emb x 0) (p.1.emb x 1)) := by
  induction n with
  | zero =>
    rw [pb_k0_t1.eq_1]
    simp only [List.not_mem_nil, false_imp_iff, implies_true, and_true]
  | succ n ih =>
    obtain ⟨i1, i2, i3, i4, i5, i6⟩ := ih (by omega)
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 ⟨n, hn⟩]
    exact ⟨forall_append (trip7 x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 h2 h4 h5 h6 h13 ⟨n, hn⟩) i1,
      forall_append (trip8 x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 h2 h4 h5 h6 h13 ⟨n, hn⟩) i2,
      forall_append (trip9 x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 h2 h4 h5 h6 h13 ⟨n, hn⟩) i3,
      forall_append (trip10 x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 h2 h4 h5 h6 h13 ⟨n, hn⟩) i4,
      forall_append (trip11 x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 h2 h4 h5 h6 h13 ⟨n, hn⟩) i5,
      forall_append (trip14 x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 X2 X4 X5 X6 X13 h2 h4 h5 h6 h13 ⟨n, hn⟩) i6⟩

end Loop

theorem pay4_apply (v : Vec Ideal S128x128 .f32) (b : Fin 8) (l : Fin 128) :
    k0_pay4 v (ix2 b l) = v (ix2 l ⟨b.val, by omega⟩) := by
  pointwise [k0_pay4]

section Out

variable (c : Dev nD) (i : grid0.Coords)
  (arg2 : Memref sig .tc .vmem S28x128x1024 .fp8e5m2) (harg2 : arg2.IsWhole)
  (arg3 : Memref sig .tc .vmem S28x8x128 .f32) (harg3 : arg3.IsWhole)
  (arg4 : Memref sig .tc .vmem S128x1024 .f32) (harg4 : arg4.IsWhole)
  (arg5 : Memref sig .tc .vmem S128x1024 .f32) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S128x1024 .f32) (harg10 : arg10.IsWhole)
  (arg11 : Memref sig .tc .vmem S128x1024 .fp8e4m3) (harg11 : arg11.IsWhole)
  (arg12 : Memref sig .tc .vmem S8x128 .f32) (harg12 : arg12.IsWhole)
  (arg13 : Memref sig .tc .vmem S4x3x8x896 .f32) (harg13 : arg13.IsWhole)
  (arg14 : Memref sig .tc .vmem S128x128 .f32) (harg14 : arg14.IsWhole)
  (x0 : Vec Ideal S28x128x1024 .fp8e5m2) (x1 : Vec Ideal S28x8x128 .f32) (x2 x3 x4 : Vec Ideal S128x1024 .f32)
  (hx : ∀ y, x1 y ≠ ⊤ ∧ x1 y ≠ ⊥)

include hx

theorem scratch_eq : arg13.view.read (Elt Ideal) (arg13.view.writes (Elt Ideal) arg13.view.junk
    (kernelRun0_A.sl.HS0_84 (F := Ideal) c arg3 harg3 x1)) = W x1 :=
  (View.read_writes_junk_eq_canon _ _).trans (canon_eq c arg3 harg3 x1 hx)

/-- The block of the new weights. -/
theorem out5 : out0_A_5 c i arg2 harg2 arg3 harg3 arg4 harg4 arg5 harg5 arg6 harg6 arg7 harg7 arg8 harg8 arg9 harg9 arg10 harg10 arg11 harg11 arg12 harg12 arg13 harg13 arg14 harg14 x0 x1 x2 x3 x4
    = fun y => newB x0 x1 x2 x3 x4 (y 0) (y 1) := by
  unfold out0_A_5
  rw [View.read_writes_junk_eq_canon]
  funext y
  refine View.canon_apply_of_pieces (fun y => newB x0 x1 x2 x3 x4 (y 0) (y 1)) _ ?_ y
    (cover0_A_5 c i arg2 harg2 arg3 harg3 arg4 harg4 arg5 harg5 arg6 harg6 arg7 harg7 arg8 harg8 arg9 harg9 arg10 harg10 arg11 harg11 arg12 harg12 arg13 harg13 arg14 harg14 x0 x1 x2 x3 x4 y)
  exact (pieces_agree x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (harg2.unread x0) (harg4.unread x2) (harg5.unread x3)
    (harg6.unread x4) _ (harg2.read_unread x0) (harg4.read_unread x2) (harg5.read_unread x3) (harg6.read_unread x4)
    (scratch_eq c arg3 harg3 arg13 x1 hx) _ le_rfl).1

/-- The block of the first moments. -/
theorem out6 : out0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4
    = fun y => mB x0 x1 x3 (y 0) (y 1) := by
  unfold out0_A_6
  rw [View.read_writes_junk_eq_canon]
  funext y
  refine View.canon_apply_of_pieces (fun y => mB x0 x1 x3 (y 0) (y 1)) _ ?_ y
    (cover0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 y)
  exact (pieces_agree x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (harg2.unread x0) (harg4.unread x2) (harg5.unread x3)
    (harg6.unread x4) _ (harg2.read_unread x0) (harg4.read_unread x2) (harg5.read_unread x3) (harg6.read_unread x4)
    (scratch_eq c arg3 harg3 arg13 x1 hx) _ le_rfl).2.1

/-- The block of the second moments. -/
theorem out7 : out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4
    = fun y => vB x0 x1 x4 (y 0) (y 1) := by
  unfold out0_A_7
  rw [View.read_writes_junk_eq_canon]
  funext y
  refine View.canon_apply_of_pieces (fun y => vB x0 x1 x4 (y 0) (y 1)) _ ?_ y
    (cover0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 y)
  exact (pieces_agree x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (harg2.unread x0) (harg4.unread x2) (harg5.unread x3)
    (harg6.unread x4) _ (harg2.read_unread x0) (harg4.read_unread x2) (harg5.read_unread x3) (harg6.read_unread x4)
    (scratch_eq c arg3 harg3 arg13 x1 hx) _ le_rfl).2.2.1

/-- The block of the updates. -/
theorem out8 : out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4
    = fun y => updB x0 x1 x2 x3 x4 (y 0) (y 1) := by
  unfold out0_A_8
  rw [View.read_writes_junk_eq_canon]
  funext y
  refine View.canon_apply_of_pieces (fun y => updB x0 x1 x2 x3 x4 (y 0) (y 1)) _ ?_ y
    (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 y)
  exact (pieces_agree x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (harg2.unread x0) (harg4.unread x2) (harg5.unread x3)
    (harg6.unread x4) _ (harg2.read_unread x0) (harg4.read_unread x2) (harg5.read_unread x3) (harg6.read_unread x4)
    (scratch_eq c arg3 harg3 arg13 x1 hx) _ le_rfl).2.2.2.1

/-- The block of the fp8 codes. -/
theorem out9 : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4
    = fun y => codeB x0 x1 x2 x3 x4 (y 0) (y 1) := by
  unfold out0_A_9
  rw [View.read_writes_junk_eq_canon]
  funext y
  refine View.canon_apply_of_pieces (fun y => codeB x0 x1 x2 x3 x4 (y 0) (y 1)) _ ?_ y
    (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 y)
  exact (pieces_agree x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (harg2.unread x0) (harg4.unread x2) (harg5.unread x3)
    (harg6.unread x4) _ (harg2.read_unread x0) (harg4.read_unread x2) (harg5.read_unread x3) (harg6.read_unread x4)
    (scratch_eq c arg3 harg3 arg13 x1 hx) _ le_rfl).2.2.2.2.1

/-- The scratch of the scales after the loop. -/
theorem scales_eq : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg2.unread x0) (harg4.unread x2) (harg5.unread x3) (harg6.unread x4) (arg13.view.writes (Elt Ideal) arg13.view.junk (kernelRun0_A.sl.HS0_84 (F := Ideal) c arg3 harg3 x1)) k0_t1_loop.trips).2.2.2.2.2
    = fun y => scaleB x0 x1 x2 x3 x4 (y 0) (y 1) := by
  funext y
  refine View.canon_apply_of_pieces (Val := Elt Ideal) (S := S128x128) (e := .f32)
    (fun y => scaleB x0 x1 x2 x3 x4 (y 0) (y 1)) _ ?_ y ?_
  swap
  · exact View.cover_of_tiledL (s := S128x128) _ S32x128.size (by sl_kernel_rfl) y
  exact (pieces_agree x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (harg2.unread x0) (harg4.unread x2) (harg5.unread x3)
    (harg6.unread x4) _ (harg2.read_unread x0) (harg4.read_unread x2) (harg5.read_unread x3) (harg6.read_unread x4)
    (scratch_eq c arg3 harg3 arg13 x1 hx) _ le_rfl).2.2.2.2.2

/-- The block of the scales. -/
theorem out10 : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4
    = fun y => scaleB x0 x1 x2 x3 x4 (y 1) ⟨(y 0).val, by have := (y 0).isLt; change _ < 8 at this; omega⟩ := by
  unfold out0_A_10
  rw [View.read_writes_junk_eq_canon]
  funext y
  obtain ⟨b, l, rfl⟩ : ∃ (b : Fin 8) (l : Fin 128), y = ix2 b l := ⟨y 0, y 1, eq_ix2 y⟩
  refine View.canon_apply_of_pieces
    (fun y => scaleB x0 x1 x2 x3 x4 (y 1) ⟨(y 0).val, by have := (y 0).isLt; change _ < 8 at this; omega⟩) _ ?_ _
    (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 _)
  unfold kernelRun0_A
  dsimp only
  intro p hp
  obtain rfl := List.mem_singleton.mp hp
  intro x
  obtain ⟨b, l, rfl⟩ : ∃ (b : Fin 8) (l : Fin 128), x = ix2 b l := ⟨x 0, x 1, eq_ix2 x⟩
  dsimp only
  rw [View.readCov_eq_canon']
  refine (pay4_apply _ b l).trans ?_
  refine (congrFun (scales_eq c i arg2 harg2 arg3 harg3 arg4 harg4 arg5 harg5 arg6 harg6 arg7 harg7 arg8 harg8 arg9 harg9 arg10 harg10 arg11 harg11 arg12 harg12 arg13 harg13 arg14 harg14 x0 x1 x2 x3 x4 hx) _).trans ?_
  refine congrArg₂ (scaleB x0 x1 x2 x3 x4) (Fin.ext ?_) (Fin.ext ?_)
  · show 0 + 1 * l.val = 0 + 1 * l.val
    rfl
  · show 0 + 1 * b.val = 0 + 1 * b.val
    rfl

end Out

end Cert.KernelIdeal.Run

end
-- ==== Proof.Array.lean ====
/- What the result arrays of the kernel hold after the run: the functions of Whole.lean of the arguments. -/
module

public import proofs.«01_k».proof.Proof.Whole
public import proofs.«01_k».proof.Proof.Run
public import proofs.«01_k».proof.Proof.Gen.KernelIdeal.Value
public import Idealize.ShloMosaic.Lib.Pipeline.ValueKit

@[expose] public section

set_option maxRecDepth 100000
set_option maxHeartbeats 1000000

noncomputable section

namespace Cert.KernelIdeal.Array

open Idealize.ShloMosaic Idealize.ShloMosaic.TcCoe Idealize.SL.Sem
open Cert.KernelIdeal Cert.KernelIdeal.Gen Cert.KernelIdeal.Facts
open Idealize.ShloMosaic.Pointwise
open Idealize.ShloMosaic.Pipeline (Dat)

variable (m : (ℓ : Loc nD τ sig) → Buf (Elt Ideal) ℓ) (c : Dev nD)

/-- The codes. -/
def codes (q : Fin 28) (R : Fin 256) (L : Fin 14336) : EReal := m ((c : Thread nD τ).loc main_arg0) (ix3 q R L)
/-- The codes' scales. -/
def scales (q : Fin 28) (R : Fin 256) (b : Fin 112) : EReal := m ((c : Thread nD τ).loc main_arg1) (ix3 q R b)
/-- The weights. -/
def par (R : Fin 256) (L : Fin 14336) : EReal := m ((c : Thread nD τ).loc main_arg2) (ix2 R L)
/-- The first moments. -/
def fst (R : Fin 256) (L : Fin 14336) : EReal := m ((c : Thread nD τ).loc main_arg3) (ix2 R L)
/-- The second moments. -/
def snd (R : Fin 256) (L : Fin 14336) : EReal := m ((c : Thread nD τ).loc main_arg4) (ix2 R L)

/-- The row block of a grid point. -/
def rb (t : Fin cfg0.N) : Fin 2 := ⟨t.val / 14, by have := t.isLt; change _ < 28 at this; omega⟩
/-- The column block of a grid point. -/
def cb (t : Fin cfg0.N) : Fin 14 := ⟨t.val % 14, by omega⟩

theorem idx0 : ∀ t : Fin cfg0.N, win0_0.index t = ![0, t.val / 14, t.val % 14] :=
  (by decide +kernel : ∀ t : Fin grid0.N, _)
theorem idx1 : ∀ t : Fin cfg0.N, win0_1.index t = ![0, t.val % 14, t.val / 14] :=
  (by decide +kernel : ∀ t : Fin grid0.N, _)
theorem idx2 : ∀ t : Fin cfg0.N, win0_2.index t = ![t.val / 14, t.val % 14] :=
  (by decide +kernel : ∀ t : Fin grid0.N, _)
theorem idx3 : ∀ t : Fin cfg0.N, win0_3.index t = ![t.val / 14, t.val % 14] :=
  (by decide +kernel : ∀ t : Fin grid0.N, _)
theorem idx4 : ∀ t : Fin cfg0.N, win0_4.index t = ![t.val / 14, t.val % 14] :=
  (by decide +kernel : ∀ t : Fin grid0.N, _)
theorem idx5 : ∀ t : Fin cfg0.N, win0_5.index t = ![t.val / 14, t.val % 14] :=
  (by decide +kernel : ∀ t : Fin grid0.N, _)
theorem idx6 : ∀ t : Fin cfg0.N, win0_6.index t = ![t.val / 14, t.val % 14] :=
  (by decide +kernel : ∀ t : Fin grid0.N, _)
theorem idx7 : ∀ t : Fin cfg0.N, win0_7.index t = ![t.val / 14, t.val % 14] :=
  (by decide +kernel : ∀ t : Fin grid0.N, _)
theorem idx8 : ∀ t : Fin cfg0.N, win0_8.index t = ![t.val / 14, t.val % 14] :=
  (by decide +kernel : ∀ t : Fin grid0.N, _)
theorem idx9 : ∀ t : Fin cfg0.N, win0_9.index t = ![t.val / 14, t.val % 14] :=
  (by decide +kernel : ∀ t : Fin grid0.N, _)
theorem idx10 : ∀ t : Fin cfg0.N, win0_10.index t = ![t.val % 14, t.val / 14] :=
  (by decide +kernel : ∀ t : Fin grid0.N, _)

/-- The grid point's blocks of the operands are the arguments at the block's place. -/
theorem iblk_at (t : Fin cfg0.N) :
    Whole.At (codes m c) (scales m c) (par m c) (fst m c) (snd m c)
      (iblk m c 0 t) (iblk m c 1 t) (iblk m c 2 t) (iblk m c 3 t) (iblk m c 4 t) (rb t) (cb t) where
  codes q R L := by
    unfold codes Whole.row Whole.col rb cb
    blk_ext! [iblk, V_main_arg0, idx0]
  scales q b R := by
    unfold scales Whole.row Whole.blk rb cb
    blk_simp [iblk]
    entry_read
    pointwise
    blk_ext [idx1]
  par R L := by
    unfold par Whole.row Whole.col rb cb
    blk_ext! [iblk, V_main_arg2, idx2]
  fst R L := by
    unfold fst Whole.row Whole.col rb cb
    blk_ext! [iblk, V_main_arg3, idx3]
  snd R L := by
    unfold snd Whole.row Whole.col rb cb
    blk_ext! [iblk, V_main_arg4, idx4]

/-- No code's scale is infinite. -/
def Finite : Prop := ∀ y : S28x256x112.Idx, m ((c : Thread nD τ).loc main_arg1) y ≠ (⊤ : EReal) ∧ m ((c : Thread nD τ).loc main_arg1) y ≠ (⊥ : EReal)

variable (hx : Finite m c)
include hx

theorem iblk_finite (t : Fin cfg0.N) (y : S28x8x128.Idx) : iblk m c 1 t y ≠ (⊤ : EReal) ∧ iblk m c 1 t y ≠ (⊥ : EReal) := by
  obtain ⟨q, b, R, rfl⟩ : ∃ (q : Fin 28) (b : Fin 8) (R : Fin 128), y = ix3 q b R := ⟨y 0, y 1, y 2, eq_ix3 y⟩
  rw [(iblk_at m c t).scales q b R]
  exact hx _

/-- The array of the new weights. -/
theorem final5 : (dats m 0 c).arrAt 5 cfg0.N = fun i : S256x14336.Idx => Whole.new (codes m c) (scales m c) (par m c) (fst m c) (snd m c) (i 0) (i 1) := by
  refine (dats m 0 c).arrAt_eq_of_covers 5 _ (by decide +kernel) fun t hf y => ?_
  blk_simp
  rw [after0_5]
  simp only [outsAt0]
  rw [Run.out5 (hx := iblk_finite m c hx t)]
  refine (Whole.new_eq (iblk_at m c t) (y 0) (y 1)).trans ?_
  refine congrArg₂ (Whole.new (codes m c) (scales m c) (par m c) (fst m c) (snd m c)) (Fin.ext ?_) (Fin.ext ?_) <;>
  · simp only [Whole.row, Whole.col, rb, cb]
    blk_simp [idx5]
    omega

/-- The array of the new first moments. -/
theorem final6 : (dats m 0 c).arrAt 6 cfg0.N = fun i : S256x14336.Idx => Whole.mom (codes m c) (scales m c) (fst m c) (i 0) (i 1) := by
  refine (dats m 0 c).arrAt_eq_of_covers 6 _ (by decide +kernel) fun t hf y => ?_
  blk_simp
  rw [after0_6]
  simp only [outsAt0]
  rw [Run.out6 (hx := iblk_finite m c hx t)]
  refine (Whole.mom_eq (iblk_at m c t) (y 0) (y 1)).trans ?_
  refine congrArg₂ (Whole.mom (codes m c) (scales m c) (fst m c)) (Fin.ext ?_) (Fin.ext ?_) <;>
  · simp only [Whole.row, Whole.col, rb, cb]
    blk_simp [idx6]
    omega

/-- The array of the new second moments. -/
theorem final7 : (dats m 0 c).arrAt 7 cfg0.N = fun i : S256x14336.Idx => Whole.vel (codes m c) (scales m c) (snd m c) (i 0) (i 1) := by
  refine (dats m 0 c).arrAt_eq_of_covers 7 _ (by decide +kernel) fun t hf y => ?_
  blk_simp
  rw [after0_7]
  simp only [outsAt0]
  rw [Run.out7 (hx := iblk_finite m c hx t)]
  refine (Whole.vel_eq (iblk_at m c t) (y 0) (y 1)).trans ?_
  refine congrArg₂ (Whole.vel (codes m c) (scales m c) (snd m c)) (Fin.ext ?_) (Fin.ext ?_) <;>
  · simp only [Whole.row, Whole.col, rb, cb]
    blk_simp [idx7]
    omega

/-- The array of the updates. -/
theorem final8 : (dats m 0 c).arrAt 8 cfg0.N = fun i : S256x14336.Idx => Whole.upd (codes m c) (scales m c) (par m c) (fst m c) (snd m c) (i 0) (i 1) := by
  refine (dats m 0 c).arrAt_eq_of_covers 8 _ (by decide +kernel) fun t hf y => ?_
  blk_simp
  rw [after0_8]
  simp only [outsAt0]
  rw [Run.out8 (hx := iblk_finite m c hx t)]
  refine (Whole.upd_eq (iblk_at m c t) (y 0) (y 1)).trans ?_
  refine congrArg₂ (Whole.upd (codes m c) (scales m c) (par m c) (fst m c) (snd m c)) (Fin.ext ?_) (Fin.ext ?_) <;>
  · simp only [Whole.row, Whole.col, rb, cb]
    blk_simp [idx8]
    omega

/-- The array of the fp8 codes. -/
theorem final9 : (dats m 0 c).arrAt 9 cfg0.N = fun i : S256x14336.Idx => Whole.code (codes m c) (scales m c) (par m c) (fst m c) (snd m c) (i 0) (i 1) := by
  refine (dats m 0 c).arrAt_eq_of_covers 9 _ (by decide +kernel) fun t hf y => ?_
  blk_simp
  rw [after0_9]
  simp only [outsAt0]
  rw [Run.out9 (hx := iblk_finite m c hx t)]
  refine (Whole.code_eq (iblk_at m c t) (y 0) (y 1)).trans ?_
  refine congrArg₂ (Whole.code (codes m c) (scales m c) (par m c) (fst m c) (snd m c)) (Fin.ext ?_) (Fin.ext ?_) <;>
  · simp only [Whole.row, Whole.col, rb, cb]
    blk_simp [idx9]
    omega

/-- The array of the scales, column blocks first. -/
theorem final10 : (dats m 0 c).arrAt 10 cfg0.N = fun i : S112x256.Idx => Whole.scale (codes m c) (scales m c) (par m c) (fst m c) (snd m c) (i 1) (i 0) := by
  refine (dats m 0 c).arrAt_eq_of_covers 10 _ (by decide +kernel) fun t hf y => ?_
  blk_simp
  rw [after0_10]
  simp only [outsAt0]
  rw [Run.out10 (hx := iblk_finite m c hx t)]
  refine (Whole.scale_eq (iblk_at m c t) (y 1) (y 0)).trans ?_
  refine congrArg₂ (Whole.scale (codes m c) (scales m c) (par m c) (fst m c) (snd m c)) (Fin.ext ?_) (Fin.ext ?_) <;>
  · simp only [Whole.row, Whole.blk, rb, cb]
    blk_simp [idx10]
    omega

end Cert.KernelIdeal.Array

end
-- ==== Proof.Ref.lean ====
/- What the reference's results hold: the functions of Whole.lean of the arguments. -/
module

public import proofs.«01_k».proof.Proof.Whole
public import proofs.«01_k».proof.Proof.Gen.ReferenceIdeal.Value
public import Idealize.ShloMosaic.Lib.Pointwise
public import Idealize.ShloMosaic.Lib.Pipeline.ValueKit

@[expose] public section

set_option maxRecDepth 100000
set_option maxHeartbeats 4000000

noncomputable section

namespace Cert.ReferenceIdeal.Ref

open Idealize.ShloMosaic Idealize.ShloMosaic.TcCoe
open Cert.ReferenceIdeal Cert.ReferenceIdeal.Gen Cert.ReferenceIdeal.Facts
open Idealize.ShloMosaic.Pointwise

variable (a0 : Vec Ideal S28x256x14336 .fp8e5m2) (a1 : Vec Ideal S28x256x112 .f32) (a2 a3 a4 : Vec Ideal S256x14336 .f32)

/-- The entries of the arguments. -/
abbrev at3 {A B D : ℕ} {e : EltTy} (x : Vec Ideal ⟨3, ![A, B, D]⟩ e) (i : Fin A) (j : Fin B) (k : Fin D) : Elt Ideal e := x (ix3 i j k)
abbrev at2 {A B : ℕ} {e : EltTy} (x : Vec Ideal ⟨2, ![A, B]⟩ e) (i : Fin A) (j : Fin B) : Elt Ideal e := x (ix2 i j)

theorem bc1_eq : Named.named (F := Ideal) (φ := .f32) κ "bc1" 0x3F60E05A#32 = Whole.bc1 :=
  IdealRules.named_const.ideal_named_scalar _ _ _ _ rfl
theorem bc2_eq : Named.named (F := Ideal) (φ := .f32) κ "bc2" 0x3F243A44#32 = Whole.bc2 :=
  IdealRules.named_const.ideal_named_scalar _ _ _ _ rfl
theorem ln2_eq : Named.named (F := Ideal) (φ := .f32) κ "ln2" 0x3F317218#32 = Whole.ln2 :=
  IdealRules.named_const.ideal_named_scalar _ _ _ _ rfl

/-- The mean over the ranks. -/
theorem grad_apply (R : Fin 256) (L : Fin 14336) :
    k0_pay1 a0 a1 (ix2 R L) = Whole.grad (at3 a0) (at3 a1) R L := by
  pointwise [k0_pay1, Whole.grad]

/-- The new first moment. -/
theorem mom_apply (R : Fin 256) (L : Fin 14336) :
    k0_pay2 a0 a1 a3 (ix2 R L) = Whole.mom (at3 a0) (at3 a1) (at2 a3) R L := by
  rw [Whole.mom, ← grad_apply]
  pointwise [k0_pay2, Spec.m1]

/-- The new second moment. -/
theorem vel_apply (R : Fin 256) (L : Fin 14336) :
    k0_pay3 a0 a1 a4 (ix2 R L) = Whole.vel (at3 a0) (at3 a1) (at2 a4) R L := by
  rw [Whole.vel, ← grad_apply]
  pointwise [k0_pay3, Spec.v1]

/-- The update before the learning rate, and the learning rate, as the reference's later parts read them. -/
theorem upd_apply (R : Fin 256) (L : Fin 14336) :
    k0_pay6 (k0_pay4 a0 a1 a2 a3 a4) (k0_pay5 (F := Ideal)) (ix2 R L) = Whole.upd (at3 a0) (at3 a1) (at2 a2) (at2 a3) (at2 a4) R L := by
  rw [Whole.upd, ← mom_apply, ← vel_apply, ← bc1_eq, ← bc2_eq]
  pointwise [k0_pay6, k0_pay5, k0_pay4, Spec.upd]

/-- The new weight. -/
theorem new_apply (R : Fin 256) (L : Fin 14336) :
    k0_pay7 a2 (k0_pay4 a0 a1 a2 a3 a4) (k0_pay5 (F := Ideal)) (ix2 R L) = Whole.new (at3 a0) (at3 a1) (at2 a2) (at2 a3) (at2 a4) R L := by
  rw [Whole.new, ← upd_apply]
  pointwise [k0_pay7]

/-- An array cut into blocks of 128 lanes. -/
def cut (n : Vec Ideal S256x14336 .f32) : FVec Ideal S256x112x128 .f32 :=
  shapeCast S256x112x128 n shapeCasts_S256x14336_S256x112x128

theorem cut_apply (n : Vec Ideal S256x14336 .f32) (R : Fin 256) (b : Fin 112) (l : Fin 128) :
    cut n (ix3 R b l) = n (ix2 R ⟨128 * b.val + l.val, by omega⟩) := by
  pointwise [cut]
  refine congrArg n (congrArg (ix2 R) (Fin.ext ?_))
  simp only
  omega

theorem lift_eq (R : Fin 256) (b : Fin 112) (l : Fin 128) :
    reduces_S256x112x128_S256x112.lift (ix2 R b) l = ix3 R b l := by
  funext a
  fin_cases a <;> rfl

/-- The largest of a block's entries. -/
theorem max_apply (n : FVec Ideal S256x112x128 .f32) (R : Fin 256) (b : Fin 112) :
    multiReduction .maximumf [2] S256x112 n 0xFF800000#32 reduces_S256x112x128_S256x112 (.inl rfl) rfl (ix2 R b)
      = Finset.univ.fold max (Ideal.ofBits .f32 0xFF800000#32) fun l : Fin 128 => n (ix3 R b l) := by
  refine (multiReduction_maximumf_eq_fold _ _ _ _ _ _).trans ((Shape.Reduces.fold_filter_drop_single _ _ _ _ _).trans ?_)
  refine congrArg (Finset.univ.fold max _) (funext fun l => ?_)
  exact congrArg n (lift_eq R b l)

/-- The largest magnitudes over 448 of the blocks. -/
def lev (n : FVec Ideal S256x112x128 .f32) : FVec Ideal S256x112 .f32 :=
  mulf (multiReduction .maximumf [2] S256x112 (absf n) 0xFF800000#32 reduces_S256x112x128_S256x112 (.inl rfl) rfl)
    (broadcast S256x112 (Scalar.ofBits .f32 0x3B124925#32))

theorem over_apply (n : FVec Ideal S256x112 .f32) (R : Fin 256) (b : Fin 112) :
    mulf n (broadcast S256x112 (Scalar.ofBits .f32 0x3B124925#32)) (ix2 R b) = n (ix2 R b) * Ideal.ofBits .f32 0x3B124925#32 := by
  pointwise

theorem lev_apply (n : FVec Ideal S256x112x128 .f32) (R : Fin 256) (b : Fin 112) :
    lev n (ix2 R b) = Spec.level fun l : Fin 128 => n (ix3 R b l) := by
  refine (over_apply _ R b).trans ?_
  rw [Spec.level, Spec.amax]
  refine congrArg (· * Ideal.ofBits .f32 0x3B124925#32) ((max_apply (absf n) R b).trans ?_)
  refine congrArg (Finset.univ.fold max _) (funext fun l => ?_)
  pointwise

/-- The exponents of magnitudes. -/
def expn (y : FVec Ideal S256x112 .f32) : FVec Ideal S256x112 .f32 :=
  select (andi (cmpf .oge y (broadcast S256x112 (Scalar.ofBits .f32 0x00800000#32)))
      (cmpf .olt y (broadcast S256x112 (Scalar.ofBits .f32 0x7E800000#32))))
    (addf (floor (divf (log y) (broadcast S256x112 (Named.named κ "ln2" 0x3F317218#32)))) (broadcast S256x112 (Scalar.ofBits .f32 0x3F800000#32)))
    (broadcast S256x112 (Scalar.ofBits .f32 0x00000000#32))

theorem select_and (P Q : Prop) [Decidable P] [Decidable Q] (x y : EReal) :
    Scalar.select (IntOp.andi (BitVec.ofBool (decide P)) (BitVec.ofBool (decide Q))) x y = if P ∧ Q then x else y := by
  by_cases hP : P <;> by_cases hQ : Q <;> simp [hP, hQ, Scalar.select, IntOp.andi]

theorem expn_apply (y : FVec Ideal S256x112 .f32) (R : Fin 256) (b : Fin 112) :
    expn y (ix2 R b) = Quant.refExp Whole.ln2 (y (ix2 R b)) := by
  rw [← ln2_eq]
  pointwise [expn, Quant.refExp]
  exact select_and _ _ _ _

/-- The exponents of the scales. -/
theorem expo_apply (R : Fin 256) (b : Fin 112) :
    k0_pay9 a2 (k0_pay4 a0 a1 a2 a3 a4) (k0_pay5 (F := Ideal)) (ix2 R b)
      = Whole.expo (at3 a0) (at3 a1) (at2 a2) (at2 a3) (at2 a4) R b := by
  have h : k0_pay9 a2 (k0_pay4 a0 a1 a2 a3 a4) (k0_pay5 (F := Ideal))
      = expn (lev (cut (k0_pay7 a2 (k0_pay4 a0 a1 a2 a3 a4) (k0_pay5 (F := Ideal))))) := rfl
  rw [h, expn_apply, lev_apply, Whole.expo, Whole.level]
  refine congrArg (fun w => Quant.refExp _ (Spec.level w)) (funext fun l => ?_)
  rw [cut_apply, new_apply]

theorem exp_apply (e : FVec Ideal S256x112 .f32) (b : Fin 112) (R : Fin 256) :
    transpose S112x256 [1, 0] (exp2 e) transposes_S256x112_p1_0_S112x256 (ix2 b R) = Ideal.exp2 (e (ix2 R b)) := by
  pointwise
  rfl

/-- The scales, column blocks first. -/
theorem scale_apply (b : Fin 112) (R : Fin 256) :
    k0_pay11 a2 (k0_pay4 a0 a1 a2 a3 a4) (k0_pay5 (F := Ideal)) (ix2 b R)
      = Whole.scale (at3 a0) (at3 a1) (at2 a2) (at2 a3) (at2 a4) R b := by
  rw [Whole.scale, ← expo_apply]
  exact exp_apply _ b R

/-- Blocks times the inverse scales, clipped. -/
def clip (n : FVec Ideal S256x112x128 .f32) (e : FVec Ideal S256x112 .f32) : FVec Ideal S256x112x128 .fp8e4m3 :=
  truncf .fp8e4m3 (minimumf (broadcast S256x112x128 (Scalar.ofBits .f32 0x43E00000#32))
    (maximumf (broadcast S256x112x128 (Scalar.ofBits .f32 0xC3E00000#32))
      (mulf n (broadcastTo S256x112x128 (shapeCast S256x112x1 (exp2 (subf (broadcast S256x112 (Scalar.ofBits .f32 0x00000000#32)) e))
        shapeCasts_S256x112_S256x112x1) broadcasts_S256x112x1_S256x112x128)))) bitsLt_fp8e4m3_f32

theorem clip_apply (n : FVec Ideal S256x112x128 .f32) (e : FVec Ideal S256x112 .f32) (R : Fin 256) (b : Fin 112) (l : Fin 128) :
    clip n e (ix3 R b l) = Spec.code (n (ix3 R b l)) (Ideal.exp2 (Ideal.ofBits .f32 0x00000000#32 - e (ix2 R b))) := by
  pointwise [clip, Spec.code]
  rfl

theorem join_apply (n : FVec Ideal S256x112x128 .fp8e4m3) (R : Fin 256) (L : Fin 14336) :
    shapeCast S256x14336 n shapeCasts_S256x112x128_S256x14336 (ix2 R L)
      = n (ix3 R ⟨L.val / 128, by omega⟩ ⟨L.val % 128, by omega⟩) := by
  pointwise

/-- The fp8 codes. -/
theorem code_apply (R : Fin 256) (L : Fin 14336) :
    k0_pay10 a2 (k0_pay4 a0 a1 a2 a3 a4) (k0_pay5 (F := Ideal)) (ix2 R L)
      = Whole.code (at3 a0) (at3 a1) (at2 a2) (at2 a3) (at2 a4) R L := by
  have h : k0_pay10 a2 (k0_pay4 a0 a1 a2 a3 a4) (k0_pay5 (F := Ideal))
      = shapeCast S256x14336 (clip (cut (k0_pay7 a2 (k0_pay4 a0 a1 a2 a3 a4) (k0_pay5 (F := Ideal))))
          (k0_pay9 a2 (k0_pay4 a0 a1 a2 a3 a4) (k0_pay5 (F := Ideal)))) shapeCasts_S256x112x128_S256x14336 := rfl
  rw [h, join_apply, clip_apply, cut_apply, expo_apply, new_apply, Whole.code]
  refine congrArg (fun n => Spec.code n _) (congrArg (Whole.new _ _ _ _ _ R) (Fin.ext ?_))
  simp only
  omega

/-! ## The results, as the run states them -/

theorem hz2 : (![0, 0] : Fin 2 → ℕ) = 0 := by decide
theorem hz3 : (![0, 0, 0] : Fin 3 → ℕ) = 0 := by decide

theorem pay12_eq : k0_pay12 a0 a1 a2 a3 a4 = k0_pay4 a0 a1 a2 a3 a4 := by
  unfold k0_pay12
  rw [View.ld_unit_zero hz3, View.ld_unit_zero hz3, View.ld_unit_zero hz2, View.ld_unit_zero hz2, View.ld_unit_zero hz2]

theorem pay13_eq : k0_pay13 a0 a1 a2 a3 a4 = k0_pay5 (F := Ideal) := rfl

open Cert.ReferenceIdeal.Value

theorem G5_eq : G5 a0 a1 a2 a3 a4 = fun i => Whole.new (at3 a0) (at3 a1) (at2 a2) (at2 a3) (at2 a4) (i 0) (i 1) := by
  funext i
  obtain ⟨R, L, rfl⟩ : ∃ (R : Fin 256) (L : Fin 14336), i = ix2 R L := ⟨i 0, i 1, eq_ix2 i⟩
  rw [G5, pay12_eq, pay13_eq, new_apply]; rfl

theorem G6_eq : G6 a0 a1 a2 a3 a4 = fun i => Whole.mom (at3 a0) (at3 a1) (at2 a3) (i 0) (i 1) := by
  funext i
  obtain ⟨R, L, rfl⟩ : ∃ (R : Fin 256) (L : Fin 14336), i = ix2 R L := ⟨i 0, i 1, eq_ix2 i⟩
  rw [G6, mom_apply]; rfl

theorem G7_eq : G7 a0 a1 a2 a3 a4 = fun i => Whole.vel (at3 a0) (at3 a1) (at2 a4) (i 0) (i 1) := by
  funext i
  obtain ⟨R, L, rfl⟩ : ∃ (R : Fin 256) (L : Fin 14336), i = ix2 R L := ⟨i 0, i 1, eq_ix2 i⟩
  rw [G7, vel_apply]; rfl

theorem G8_eq : G8 a0 a1 a2 a3 a4 = fun i => Whole.upd (at3 a0) (at3 a1) (at2 a2) (at2 a3) (at2 a4) (i 0) (i 1) := by
  funext i
  obtain ⟨R, L, rfl⟩ : ∃ (R : Fin 256) (L : Fin 14336), i = ix2 R L := ⟨i 0, i 1, eq_ix2 i⟩
  rw [G8, pay12_eq, pay13_eq, upd_apply]; rfl

theorem G9_eq : G9 a0 a1 a2 a3 a4 = fun i => Whole.code (at3 a0) (at3 a1) (at2 a2) (at2 a3) (at2 a4) (i 0) (i 1) := by
  funext i
  obtain ⟨R, L, rfl⟩ : ∃ (R : Fin 256) (L : Fin 14336), i = ix2 R L := ⟨i 0, i 1, eq_ix2 i⟩
  rw [G9, pay12_eq, pay13_eq, code_apply]; rfl

theorem G10_eq : G10 a0 a1 a2 a3 a4 = fun i => Whole.scale (at3 a0) (at3 a1) (at2 a2) (at2 a3) (at2 a4) (i 1) (i 0) := by
  funext i
  obtain ⟨b, R, rfl⟩ : ∃ (b : Fin 112) (R : Fin 256), i = ix2 b R := ⟨i 0, i 1, eq_ix2 i⟩
  rw [G10, pay12_eq, pay13_eq, scale_apply]; rfl

end Cert.ReferenceIdeal.Ref

end
-- ==== Proof.Finite.lean ====
/- What the precondition says: no scale of a code is infinite. -/
module

public import proofs.«01_k».proof.Pre_finite_scales
public import Idealize.ShloMosaic.Lib.ReduceAll
public import Idealize.ShloMosaic.Lib.Pointwise
public import Idealize.ShloMosaic.PureOps.Ideal

@[expose] public section

noncomputable section

namespace Cert.Pre_finite_scales

open Idealize.ShloMosaic Idealize.ShloMosaic.Pointwise

/-- The side conditions of the predicate's operations. -/
instance facts : Facts where
  bcast_S_S28x256x112 := by decide
  reducesTo_S28x256x112_S_d0_1_2 := by decide
  h_S_ := by decide

theorem ofBits_inf : Ideal.ofBits .f32 0x7F800000#32 = ⊤ := by
  simp [Ideal.ofBits, Ideal.ieee, FTy.bits]

/-- A magnitude below infinity is of a value that is not infinite. -/
theorem ne_of_abs_lt (x : EReal) (h : FloatOps.absf (F := Ideal) (φ := .f32) x < (⊤ : EReal)) : x ≠ ⊤ ∧ x ≠ ⊥ := by
  change max x (-x) < ⊤ at h
  constructor <;> rintro rfl <;> simp at h

/-- Under the precondition no scale is infinite. -/
theorem finite (a0 : FVec Ideal S28x256x14336 .fp8e5m2) (a1 : FVec Ideal S28x256x112 .f32) (a2 a3 a4 : FVec Ideal S256x14336 .f32)
    (h : fn (F := Ideal) a0 a1 a2 a3 a4 = fun _ => 1#1) (y : S28x256x112.Idx) : a1 y ≠ (⊤ : EReal) ∧ a1 y ≠ (⊥ : EReal) := by
  have h1 := congrFun h default
  unfold fn at h1
  have h2 := Host.reduce_andi_all _ _ _ _ _ h1 y
  pointwise at h2
  refine ne_of_abs_lt _ ?_
  rw [← ofBits_inf]
  by_contra hn
  simp [hn] at h2

end Cert.Pre_finite_scales

end
-- ==== Proof.Equation.lean ====
/- The kernel and the reference, from equal arguments, end with equal results. -/
module

public import proofs.«01_k».proof.Defs
public import proofs.«01_k».proof.Proof.Array
public import proofs.«01_k».proof.Proof.Ref
public import proofs.«01_k».proof.Proof.Finite

@[expose] public section

set_option maxRecDepth 100000
set_option maxHeartbeats 1000000

noncomputable section

namespace Cert.Equation

open Idealize.ShloMosaic Idealize.ShloMosaic.TcCoe Idealize.SL.Sem
open Cert.KernelIdeal.Array

/-- Under the precondition no scale of the kernel's argument is infinite. -/
theorem finite (m : (ℓ : Loc KernelIdeal.nD KernelIdeal.τ KernelIdeal.sig) → Buf (Elt Ideal) ℓ)
    (h : Cert.Pre_KernelIdeal_finite_scales m) (c : Dev KernelIdeal.nD) : Finite m c :=
  fun y => Cert.Pre_finite_scales.finite _ _ _ _ _ (h c) y

/-- Each of the six results of the kernel equals the reference's, entry by entry, on the extended reals. -/
theorem algebraic : Cert.algebraic_KernelIdeal_ReferenceIdeal_pre_finite_scales := by
  intro m g m' g' hpre hargs
  refine ⟨fun c i => Whole.new (codes m c) (scales m c) (par m c) (fst m c) (snd m c) (i 0) (i 1),
    fun c i => Whole.mom (codes m c) (scales m c) (fst m c) (i 0) (i 1),
    fun c i => Whole.vel (codes m c) (scales m c) (snd m c) (i 0) (i 1),
    fun c i => Whole.upd (codes m c) (scales m c) (par m c) (fst m c) (snd m c) (i 0) (i 1),
    fun c i => Whole.code (codes m c) (scales m c) (par m c) (fst m c) (snd m c) (i 0) (i 1),
    fun c i => Whole.scale (codes m c) (scales m c) (par m c) (fst m c) (snd m c) (i 1) (i 0), ?_, ?_⟩
  · refine (θ_run _ _ _).mono (fun r h c => ?_) (Cert.KernelIdeal.Value.run_blocks m g)
    have hx := finite m hpre c
    obtain ⟨h0, h1, h2, h3, h4, h5, hk⟩ := h c
    exact ⟨h0.trans (final5 m c hx), h1.trans (final6 m c hx), h2.trans (final7 m c hx), h3.trans (final8 m c hx),
      h4.trans (final9 m c hx), h5.trans (final10 m c hx), hk⟩
  · refine (θ_run _ _ _).mono (fun r h c => ?_) (Cert.ReferenceIdeal.Value.run m' g')
    obtain ⟨h0, h1, h2, h3, h4, h5, hk⟩ := h c
    obtain ⟨e0, e1, e2, e3, e4⟩ := hargs c
    refine ⟨h0.trans ?_, h1.trans ?_, h2.trans ?_, h3.trans ?_, h4.trans ?_, h5.trans ?_, hk⟩
    · rw [Cert.ReferenceIdeal.Ref.G5_eq, e0, e1, e2, e3, e4]; rfl
    · rw [Cert.ReferenceIdeal.Ref.G6_eq, e0, e1, e3]; rfl
    · rw [Cert.ReferenceIdeal.Ref.G7_eq, e0, e1, e4]; rfl
    · rw [Cert.ReferenceIdeal.Ref.G8_eq, e0, e1, e2, e3, e4]; rfl
    · rw [Cert.ReferenceIdeal.Ref.G9_eq, e0, e1, e2, e3, e4]; rfl
    · rw [Cert.ReferenceIdeal.Ref.G10_eq, e0, e1, e2, e3, e4]; rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Each replacement made by the idealization is an instance of its rule: the first bf16 piece read as the value
    itself, and the three reciprocals read as exact rationals. -/
theorem preserves : Cert.preserves_Kernel_KernelIdeal :=
  ⟨IdealRules.bf16_pack.statement _, IdealRules.named_const.statement _ _ _ _ _ rfl,
    IdealRules.named_const.statement _ _ _ _ _ rfl, IdealRules.named_const.statement _ _ _ _ _ rfl⟩

/-- Everything the certificate claims. -/
theorem claim : Cert.Claim :=
  ⟨Cert.Kernel.Gen.facts, Cert.KernelIdeal.Gen.facts, Cert.ReferenceIdeal.Gen.facts, Cert.Pre_finite_scales.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, Cert.Equation.algebraic⟩

end Cert.Proof

end
